-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S64x128x64x64 : Shape := ⟨4, ![64, 128, 64, 64]⟩
abbrev S2x5 : Shape := ⟨2, ![2, 5]⟩
abbrev S1x1 : Shape := ⟨2, ![1, 1]⟩
abbrev S_ : Shape := ⟨0, ![]⟩

class Facts : Prop where
  bcast_S_S2x5 : S_.BroadcastsInDim S2x5 (![] : Fin 0 → Fin S2x5.rank)
  reducesTo_S2x5_S_d0_1 : S2x5.ReducesTo [0, 1] S_
  h_S_ : 0 < S_.numel

variable [Facts]

def fn {F : FTy → Type} [FloatOps F] (main_arg0 : FVec F S64x128x64x64 .f32) (main_arg1 : FVec F S2x5 .f32) (main_arg2 : FVec F S2x5 .f32) (main_arg3 : FVec F S1x1 .f32) (main_arg4 : FVec F S1x1 .f32) : IVec S_ 1 :=
  let main_v0 : FVec F S2x5 .f32 := Host.absf main_arg1
  let main_cst : FVec F S_ .f32 := constant S_ .f32 0x7F800000#32
  let main_v1 : FVec F S2x5 .f32 := broadcastInDim S2x5 ![] bcast_S_S2x5 main_cst
  let main_v2 : IVec S2x5 1 := cmpf .olt main_v0 main_v1
  let main_c : IVec S_ 1 := constantI S_ 1 1#1
  let main_v3 : IVec S_ 1 := (fun x v => Host.reduce IntOp.andi x v reducesTo_S2x5_S_d0_1 h_S_) main_v2 main_c
  let main_v4 : FVec F S2x5 .f32 := Host.absf main_arg2
  let main_cst_0 : FVec F S_ .f32 := constant S_ .f32 0x7F800000#32
  let main_v5 : FVec F S2x5 .f32 := broadcastInDim S2x5 ![] bcast_S_S2x5 main_cst_0
  let main_v6 : IVec S2x5 1 := cmpf .olt main_v4 main_v5
  let main_c_1 : IVec S_ 1 := constantI S_ 1 1#1
  let main_v7 : IVec S_ 1 := (fun x v => Host.reduce IntOp.andi x v reducesTo_S2x5_S_d0_1 h_S_) main_v6 main_c_1
  let main_v8 : IVec S_ 1 := andi main_v3 main_v7
  main_v8
-- ==== Kernel.lean ====
abbrev S64x128x64x64 : Shape := ⟨4, ![64, 128, 64, 64]⟩
abbrev S2x5 : Shape := ⟨2, ![2, 5]⟩
abbrev S1x1 : Shape := ⟨2, ![1, 1]⟩
abbrev S8192x4096 : Shape := ⟨2, ![8192, 4096]⟩
abbrev S256x4096 : Shape := ⟨2, ![256, 4096]⟩

abbrev nBuf : Space → Nat
  | .hbm => 8
  | .vmem => 4
  | .smem => 4
  | _ => 0

abbrev bufTy : (tb : Table) → Fin (tcTables nBuf tb) → BufTy
  | .hbm, ⟨0, _⟩ => ⟨S64x128x64x64, .f32⟩
  | .hbm, ⟨1, _⟩ => ⟨S2x5, .f32⟩
  | .hbm, ⟨2, _⟩ => ⟨S2x5, .f32⟩
  | .hbm, ⟨3, _⟩ => ⟨S1x1, .f32⟩
  | .hbm, ⟨4, _⟩ => ⟨S1x1, .f32⟩
  | .hbm, ⟨5, _⟩ => ⟨S8192x4096, .f32⟩
  | .hbm, ⟨6, _⟩ => ⟨S8192x4096, .f32⟩
  | .hbm, ⟨7, _⟩ => ⟨S64x128x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .smem, ⟨0, _⟩ => ⟨S2x5, .f32⟩
  | .local _ .smem, ⟨1, _⟩ => ⟨S2x5, .f32⟩
  | .local _ .smem, ⟨2, _⟩ => ⟨S1x1, .f32⟩
  | .local _ .smem, ⟨3, _⟩ => ⟨S1x1, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S2x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x128x64x64 : Shape := ⟨4, ![64, 128, 64, 64]⟩
abbrev S2x5 : Shape := ⟨2, ![2, 5]⟩
abbrev S1x1 : Shape := ⟨2, ![1, 1]⟩
abbrev S_ : Shape := ⟨0, ![]⟩
abbrev S64x128x4096 : Shape := ⟨3, ![64, 128, 4096]⟩
abbrev S64x4096x128 : Shape := ⟨3, ![64, 4096, 128]⟩
abbrev S1x5 : Shape := ⟨2, ![1, 5]⟩
abbrev S5 : Shape := ⟨1, ![5]⟩
abbrev S64x4096x128x1 : Shape := ⟨4, ![64, 4096, 128, 1]⟩

abbrev nBuf : Space → Nat
  | .hbm => 579
  | .vmem => 0
  | .smem => 0
  | _ => 0

abbrev hbmTy0_0 (i : Nat) : BufTy := match i % 128 with
  | 0 => ⟨S64x128x64x64, .f32⟩
  | 1 => ⟨S2x5, .f32⟩
  | 2 => ⟨S2x5, .f32⟩
  | 3 => ⟨S1x1, .f32⟩
  | 4 => ⟨S1x1, .f32⟩
  | 5 => ⟨S_, .f32⟩
  | 6 => ⟨S64x128x64x64, .f32⟩
  | 7 => ⟨S64x128x64x64, .f32⟩
  | 8 => ⟨S64x128x4096, .f32⟩
  | 9 => ⟨S64x4096x128, .f32⟩
  | 10 => ⟨S_, .f32⟩
  | 11 => ⟨S64x4096x128, .f32⟩
  | 12 => ⟨S64x4096x128, .f32⟩
  | 13 => ⟨S_, .f32⟩
  | 14 => ⟨S_, .f32⟩
  | 15 => ⟨S_, .f32⟩
  | 16 => ⟨S64x4096x128, .f32⟩
  | 17 => ⟨S64x4096x128, .f32⟩
  | 18 => ⟨S_, .f32⟩
  | 19 => ⟨S64x4096x128, .f32⟩
  | 20 => ⟨S64x4096x128, .f32⟩
  | 21 => ⟨S64x4096x128, .f32⟩
  | 22 => ⟨S64x4096x128, .i32⟩
  | 23 => ⟨S_, .i32⟩
  | 24 => ⟨S_, .i32⟩
  | 25 => ⟨S_, .i32⟩
  | 26 => ⟨S64x4096x128, .i32⟩
  | 27 => ⟨S64x4096x128, .i32⟩
  | 28 => ⟨S_, .i32⟩
  | 29 => ⟨S64x4096x128, .i32⟩
  | 30 => ⟨S64x4096x128, .i32⟩
  | 31 => ⟨S64x4096x128, .f32⟩
  | 32 => ⟨S64x4096x128, .f32⟩
  | 33 => ⟨S1x5, .f32⟩
  | 34 => ⟨S5, .f32⟩
  | 35 => ⟨S1x5, .f32⟩
  | 36 => ⟨S5, .f32⟩
  | 37 => ⟨S64x4096x128, .f32⟩
  | 38 => ⟨S64x4096x128, .f32⟩
  | 39 => ⟨S_, .f32⟩
  | 40 => ⟨S64x4096x128, .f32⟩
  | 41 => ⟨S64x4096x128, .f32⟩
  | 42 => ⟨S_, .f32⟩
  | 43 => ⟨S64x4096x128, .f32⟩
  | 44 => ⟨S64x4096x128, .f32⟩
  | 45 => ⟨S64x4096x128, .f32⟩
  | 46 => ⟨S_, .f32⟩
  | 47 => ⟨S64x4096x128, .f32⟩
  | 48 => ⟨S64x4096x128, .f32⟩
  | 49 => ⟨S_, .f32⟩
  | 50 => ⟨S64x4096x128, .f32⟩
  | 51 => ⟨S64x4096x128, .f32⟩
  | 52 => ⟨S64x4096x128, .f32⟩
  | 53 => ⟨S64x4096x128, .f32⟩
  | 54 => ⟨S_, .f32⟩
  | 55 => ⟨S64x4096x128, .f32⟩
  | 56 => ⟨S64x4096x128, .f32⟩
  | 57 => ⟨S_, .f32⟩
  | 58 => ⟨S64x4096x128, .f32⟩
  | 59 => ⟨S64x4096x128, .f32⟩
  | 60 => ⟨S64x4096x128, .f32⟩
  | 61 => ⟨S64x4096x128, .f32⟩
  | 62 => ⟨S_, .i32⟩
  | 63 => ⟨S64x4096x128, .i32⟩
  | 64 => ⟨S64x4096x128, .i1⟩
  | 65 => ⟨S_, .i32⟩
  | 66 => ⟨S64x4096x128, .i32⟩
  | 67 => ⟨S64x4096x128, .i32⟩
  | 68 => ⟨S64x4096x128, .i32⟩
  | 69 => ⟨S64x4096x128x1, .i32⟩
  | 70 => ⟨S64x4096x128, .f32⟩
  | 71 => ⟨S64x4096x128, .f32⟩
  | 72 => ⟨S_, .i32⟩
  | 73 => ⟨S64x4096x128, .i32⟩
  | 74 => ⟨S64x4096x128, .i1⟩
  | 75 => ⟨S_, .i32⟩
  | 76 => ⟨S64x4096x128, .i32⟩
  | 77 => ⟨S64x4096x128, .i32⟩
  | 78 => ⟨S64x4096x128, .i32⟩
  | 79 => ⟨S64x4096x128x1, .i32⟩
  | 80 => ⟨S64x4096x128, .f32⟩
  | 81 => ⟨S64x4096x128, .f32⟩
  | 82 => ⟨S64x4096x128, .f32⟩
  | 83 => ⟨S_, .i32⟩
  | 84 => ⟨S64x4096x128, .i32⟩
  | 85 => ⟨S64x4096x128, .i32⟩
  | 86 => ⟨S_, .i32⟩
  | 87 => ⟨S64x4096x128, .i32⟩
  | 88 => ⟨S64x4096x128, .i1⟩
  | 89 => ⟨S_, .i32⟩
  | 90 => ⟨S64x4096x128, .i32⟩
  | 91 => ⟨S64x4096x128, .i32⟩
  | 92 => ⟨S64x4096x128, .i32⟩
  | 93 => ⟨S64x4096x128x1, .i32⟩
  | 94 => ⟨S64x4096x128, .f32⟩
  | 95 => ⟨S64x4096x128, .f32⟩
  | 96 => ⟨S64x4096x128, .f32⟩
  | 97 => ⟨S_, .i32⟩
  | 98 => ⟨S64x4096x128, .i32⟩
  | 99 => ⟨S64x4096x128, .i32⟩
  | 100 => ⟨S_, .i32⟩
  | 101 => ⟨S64x4096x128, .i32⟩
  | 102 => ⟨S64x4096x128, .i1⟩
  | 103 => ⟨S_, .i32⟩
  | 104 => ⟨S64x4096x128, .i32⟩
  | 105 => ⟨S64x4096x128, .i32⟩
  | 106 => ⟨S64x4096x128, .i32⟩
  | 107 => ⟨S64x4096x128x1, .i32⟩
  | 108 => ⟨S64x4096x128, .f32⟩
  | 109 => ⟨S64x4096x128, .f32⟩
  | 110 => ⟨S64x4096x128, .f32⟩
  | 111 => ⟨S1x5, .f32⟩
  | 112 => ⟨S5, .f32⟩
  | 113 => ⟨S1x5, .f32⟩
  | 114 => ⟨S5, .f32⟩
  | 115 => ⟨S64x4096x128, .f32⟩
  | 116 => ⟨S64x4096x128, .f32⟩
  | 117 => ⟨S_, .f32⟩
  | 118 => ⟨S64x4096x128, .f32⟩
  | 119 => ⟨S64x4096x128, .f32⟩
  | 120 => ⟨S_, .f32⟩
  | 121 => ⟨S64x4096x128, .f32⟩
  | 122 => ⟨S64x4096x128, .f32⟩
  | 123 => ⟨S64x4096x128, .f32⟩
  | 124 => ⟨S_, .f32⟩
  | 125 => ⟨S64x4096x128, .f32⟩
  | 126 => ⟨S64x4096x128, .f32⟩
  | 127 => ⟨S_, .f32⟩
  | _ => ⟨S64x128x64x64, .f32⟩

abbrev hbmTy0_1 (i : Nat) : BufTy := match i % 128 with
  | 0 => ⟨S64x4096x128, .f32⟩
  | 1 => ⟨S64x4096x128, .f32⟩
  | 2 => ⟨S64x4096x128, .f32⟩
  | 3 => ⟨S64x4096x128, .f32⟩
  | 4 => ⟨S_, .f32⟩
  | 5 => ⟨S64x4096x128, .f32⟩
  | 6 => ⟨S64x4096x128, .f32⟩
  | 7 => ⟨S_, .f32⟩
  | 8 => ⟨S64x4096x128, .f32⟩
  | 9 => ⟨S64x4096x128, .f32⟩
  | 10 => ⟨S64x4096x128, .f32⟩
  | 11 => ⟨S64x4096x128, .f32⟩
  | 12 => ⟨S_, .i32⟩
  | 13 => ⟨S64x4096x128, .i32⟩
  | 14 => ⟨S64x4096x128, .i1⟩
  | 15 => ⟨S_, .i32⟩
  | 16 => ⟨S64x4096x128, .i32⟩
  | 17 => ⟨S64x4096x128, .i32⟩
  | 18 => ⟨S64x4096x128, .i32⟩
  | 19 => ⟨S64x4096x128x1, .i32⟩
  | 20 => ⟨S64x4096x128, .f32⟩
  | 21 => ⟨S64x4096x128, .f32⟩
  | 22 => ⟨S_, .i32⟩
  | 23 => ⟨S64x4096x128, .i32⟩
  | 24 => ⟨S64x4096x128, .i1⟩
  | 25 => ⟨S_, .i32⟩
  | 26 => ⟨S64x4096x128, .i32⟩
  | 27 => ⟨S64x4096x128, .i32⟩
  | 28 => ⟨S64x4096x128, .i32⟩
  | 29 => ⟨S64x4096x128x1, .i32⟩
  | 30 => ⟨S64x4096x128, .f32⟩
  | 31 => ⟨S64x4096x128, .f32⟩
  | 32 => ⟨S64x4096x128, .f32⟩
  | 33 => ⟨S_, .i32⟩
  | 34 => ⟨S64x4096x128, .i32⟩
  | 35 => ⟨S64x4096x128, .i32⟩
  | 36 => ⟨S_, .i32⟩
  | 37 => ⟨S64x4096x128, .i32⟩
  | 38 => ⟨S64x4096x128, .i1⟩
  | 39 => ⟨S_, .i32⟩
  | 40 => ⟨S64x4096x128, .i32⟩
  | 41 => ⟨S64x4096x128, .i32⟩
  | 42 => ⟨S64x4096x128, .i32⟩
  | 43 => ⟨S64x4096x128x1, .i32⟩
  | 44 => ⟨S64x4096x128, .f32⟩
  | 45 => ⟨S64x4096x128, .f32⟩
  | 46 => ⟨S64x4096x128, .f32⟩
  | 47 => ⟨S_, .i32⟩
  | 48 => ⟨S64x4096x128, .i32⟩
  | 49 => ⟨S64x4096x128, .i32⟩
  | 50 => ⟨S_, .i32⟩
  | 51 => ⟨S64x4096x128, .i32⟩
  | 52 => ⟨S64x4096x128, .i1⟩
  | 53 => ⟨S_, .i32⟩
  | 54 => ⟨S64x4096x128, .i32⟩
  | 55 => ⟨S64x4096x128, .i32⟩
  | 56 => ⟨S64x4096x128, .i32⟩
  | 57 => ⟨S64x4096x128x1, .i32⟩
  | 58 => ⟨S64x4096x128, .f32⟩
  | 59 => ⟨S64x4096x128, .f32⟩
  | 60 => ⟨S64x4096x128, .f32⟩
  | 61 => ⟨S64x4096x128, .f32⟩
  | 62 => ⟨S64x4096x128, .f32⟩
  | 63 => ⟨S64x4096x128, .f32⟩
  | 64 => ⟨S64x4096x128, .f32⟩
  | 65 => ⟨S64x4096x128, .f32⟩
  | 66 => ⟨S64x4096x128, .f32⟩
  | 67 => ⟨S_, .f32⟩
  | 68 => ⟨S64x4096x128, .f32⟩
  | 69 => ⟨S64x4096x128, .f32⟩
  | 70 => ⟨S64x4096x128, .f32⟩
  | 71 => ⟨S_, .f32⟩
  | 72 => ⟨S_, .f32⟩
  | 73 => ⟨S_, .f32⟩
  | 74 => ⟨S64x4096x128, .f32⟩
  | 75 => ⟨S64x4096x128, .f32⟩
  | 76 => ⟨S_, .f32⟩
  | 77 => ⟨S64x4096x128, .f32⟩
  | 78 => ⟨S64x4096x128, .f32⟩
  | 79 => ⟨S64x4096x128, .f32⟩
  | 80 => ⟨S64x4096x128, .i32⟩
  | 81 => ⟨S_, .i32⟩
  | 82 => ⟨S_, .i32⟩
  | 83 => ⟨S_, .i32⟩
  | 84 => ⟨S64x4096x128, .i32⟩
  | 85 => ⟨S64x4096x128, .i32⟩
  | 86 => ⟨S_, .i32⟩
  | 87 => ⟨S64x4096x128, .i32⟩
  | 88 => ⟨S64x4096x128, .i32⟩
  | 89 => ⟨S64x4096x128, .f32⟩
  | 90 => ⟨S64x4096x128, .f32⟩
  | 91 => ⟨S1x5, .f32⟩
  | 92 => ⟨S5, .f32⟩
  | 93 => ⟨S1x5, .f32⟩
  | 94 => ⟨S5, .f32⟩
  | 95 => ⟨S64x4096x128, .f32⟩
  | 96 => ⟨S64x4096x128, .f32⟩
  | 97 => ⟨S_, .f32⟩
  | 98 => ⟨S64x4096x128, .f32⟩
  | 99 => ⟨S64x4096x128, .f32⟩
  | 100 => ⟨S_, .f32⟩
  | 101 => ⟨S64x4096x128, .f32⟩
  | 102 => ⟨S64x4096x128, .f32⟩
  | 103 => ⟨S64x4096x128, .f32⟩
  | 104 => ⟨S_, .f32⟩
  | 105 => ⟨S64x4096x128, .f32⟩
  | 106 => ⟨S64x4096x128, .f32⟩
  | 107 => ⟨S_, .f32⟩
  | 108 => ⟨S64x4096x128, .f32⟩
  | 109 => ⟨S64x4096x128, .f32⟩
  | 110 => ⟨S64x4096x128, .f32⟩
  | 111 => ⟨S64x4096x128, .f32⟩
  | 112 => ⟨S_, .f32⟩
  | 113 => ⟨S64x4096x128, .f32⟩
  | 114 => ⟨S64x4096x128, .f32⟩
  | 115 => ⟨S_, .f32⟩
  | 116 => ⟨S64x4096x128, .f32⟩
  | 117 => ⟨S64x4096x128, .f32⟩
  | 118 => ⟨S64x4096x128, .f32⟩
  | 119 => ⟨S64x4096x128, .f32⟩
  | 120 => ⟨S_, .i32⟩
  | 121 => ⟨S64x4096x128, .i32⟩
  | 122 => ⟨S64x4096x128, .i1⟩
  | 123 => ⟨S_, .i32⟩
  | 124 => ⟨S64x4096x128, .i32⟩
  | 125 => ⟨S64x4096x128, .i32⟩
  | 126 => ⟨S64x4096x128, .i32⟩
  | 127 => ⟨S64x4096x128x1, .i32⟩
  | _ => ⟨S64x128x64x64, .f32⟩

abbrev hbmTy0_2 (i : Nat) : BufTy := match i % 128 with
  | 0 => ⟨S64x4096x128, .f32⟩
  | 1 => ⟨S64x4096x128, .f32⟩
  | 2 => ⟨S_, .i32⟩
  | 3 => ⟨S64x4096x128, .i32⟩
  | 4 => ⟨S64x4096x128, .i1⟩
  | 5 => ⟨S_, .i32⟩
  | 6 => ⟨S64x4096x128, .i32⟩
  | 7 => ⟨S64x4096x128, .i32⟩
  | 8 => ⟨S64x4096x128, .i32⟩
  | 9 => ⟨S64x4096x128x1, .i32⟩
  | 10 => ⟨S64x4096x128, .f32⟩
  | 11 => ⟨S64x4096x128, .f32⟩
  | 12 => ⟨S64x4096x128, .f32⟩
  | 13 => ⟨S_, .i32⟩
  | 14 => ⟨S64x4096x128, .i32⟩
  | 15 => ⟨S64x4096x128, .i32⟩
  | 16 => ⟨S_, .i32⟩
  | 17 => ⟨S64x4096x128, .i32⟩
  | 18 => ⟨S64x4096x128, .i1⟩
  | 19 => ⟨S_, .i32⟩
  | 20 => ⟨S64x4096x128, .i32⟩
  | 21 => ⟨S64x4096x128, .i32⟩
  | 22 => ⟨S64x4096x128, .i32⟩
  | 23 => ⟨S64x4096x128x1, .i32⟩
  | 24 => ⟨S64x4096x128, .f32⟩
  | 25 => ⟨S64x4096x128, .f32⟩
  | 26 => ⟨S64x4096x128, .f32⟩
  | 27 => ⟨S_, .i32⟩
  | 28 => ⟨S64x4096x128, .i32⟩
  | 29 => ⟨S64x4096x128, .i32⟩
  | 30 => ⟨S_, .i32⟩
  | 31 => ⟨S64x4096x128, .i32⟩
  | 32 => ⟨S64x4096x128, .i1⟩
  | 33 => ⟨S_, .i32⟩
  | 34 => ⟨S64x4096x128, .i32⟩
  | 35 => ⟨S64x4096x128, .i32⟩
  | 36 => ⟨S64x4096x128, .i32⟩
  | 37 => ⟨S64x4096x128x1, .i32⟩
  | 38 => ⟨S64x4096x128, .f32⟩
  | 39 => ⟨S64x4096x128, .f32⟩
  | 40 => ⟨S64x4096x128, .f32⟩
  | 41 => ⟨S1x5, .f32⟩
  | 42 => ⟨S5, .f32⟩
  | 43 => ⟨S1x5, .f32⟩
  | 44 => ⟨S5, .f32⟩
  | 45 => ⟨S64x4096x128, .f32⟩
  | 46 => ⟨S64x4096x128, .f32⟩
  | 47 => ⟨S_, .f32⟩
  | 48 => ⟨S64x4096x128, .f32⟩
  | 49 => ⟨S64x4096x128, .f32⟩
  | 50 => ⟨S_, .f32⟩
  | 51 => ⟨S64x4096x128, .f32⟩
  | 52 => ⟨S64x4096x128, .f32⟩
  | 53 => ⟨S64x4096x128, .f32⟩
  | 54 => ⟨S_, .f32⟩
  | 55 => ⟨S64x4096x128, .f32⟩
  | 56 => ⟨S64x4096x128, .f32⟩
  | 57 => ⟨S_, .f32⟩
  | 58 => ⟨S64x4096x128, .f32⟩
  | 59 => ⟨S64x4096x128, .f32⟩
  | 60 => ⟨S64x4096x128, .f32⟩
  | 61 => ⟨S64x4096x128, .f32⟩
  | 62 => ⟨S_, .f32⟩
  | 63 => ⟨S64x4096x128, .f32⟩
  | 64 => ⟨S64x4096x128, .f32⟩
  | 65 => ⟨S_, .f32⟩
  | 66 => ⟨S64x4096x128, .f32⟩
  | 67 => ⟨S64x4096x128, .f32⟩
  | 68 => ⟨S64x4096x128, .f32⟩
  | 69 => ⟨S64x4096x128, .f32⟩
  | 70 => ⟨S_, .i32⟩
  | 71 => ⟨S64x4096x128, .i32⟩
  | 72 => ⟨S64x4096x128, .i1⟩
  | 73 => ⟨S_, .i32⟩
  | 74 => ⟨S64x4096x128, .i32⟩
  | 75 => ⟨S64x4096x128, .i32⟩
  | 76 => ⟨S64x4096x128, .i32⟩
  | 77 => ⟨S64x4096x128x1, .i32⟩
  | 78 => ⟨S64x4096x128, .f32⟩
  | 79 => ⟨S64x4096x128, .f32⟩
  | 80 => ⟨S_, .i32⟩
  | 81 => ⟨S64x4096x128, .i32⟩
  | 82 => ⟨S64x4096x128, .i1⟩
  | 83 => ⟨S_, .i32⟩
  | 84 => ⟨S64x4096x128, .i32⟩
  | 85 => ⟨S64x4096x128, .i32⟩
  | 86 => ⟨S64x4096x128, .i32⟩
  | 87 => ⟨S64x4096x128x1, .i32⟩
  | 88 => ⟨S64x4096x128, .f32⟩
  | 89 => ⟨S64x4096x128, .f32⟩
  | 90 => ⟨S64x4096x128, .f32⟩
  | 91 => ⟨S_, .i32⟩
  | 92 => ⟨S64x4096x128, .i32⟩
  | 93 => ⟨S64x4096x128, .i32⟩
  | 94 => ⟨S_, .i32⟩
  | 95 => ⟨S64x4096x128, .i32⟩
  | 96 => ⟨S64x4096x128, .i1⟩
  | 97 => ⟨S_, .i32⟩
  | 98 => ⟨S64x4096x128, .i32⟩
  | 99 => ⟨S64x4096x128, .i32⟩
  | 100 => ⟨S64x4096x128, .i32⟩
  | 101 => ⟨S64x4096x128x1, .i32⟩
  | 102 => ⟨S64x4096x128, .f32⟩
  | 103 => ⟨S64x4096x128, .f32⟩
  | 104 => ⟨S64x4096x128, .f32⟩
  | 105 => ⟨S_, .i32⟩
  | 106 => ⟨S64x4096x128, .i32⟩
  | 107 => ⟨S64x4096x128, .i32⟩
  | 108 => ⟨S_, .i32⟩
  | 109 => ⟨S64x4096x128, .i32⟩
  | 110 => ⟨S64x4096x128, .i1⟩
  | 111 => ⟨S_, .i32⟩
  | 112 => ⟨S64x4096x128, .i32⟩
  | 113 => ⟨S64x4096x128, .i32⟩
  | 114 => ⟨S64x4096x128, .i32⟩
  | 115 => ⟨S64x4096x128x1, .i32⟩
  | 116 => ⟨S64x4096x128, .f32⟩
  | 117 => ⟨S64x4096x128, .f32⟩
  | 118 => ⟨S64x4096x128, .f32⟩
  | 119 => ⟨S64x4096x128, .f32⟩
  | 120 => ⟨S64x4096x128, .f32⟩
  | 121 => ⟨S64x4096x128, .f32⟩
  | 122 => ⟨S64x4096x128, .f32⟩
  | 123 => ⟨S64x4096x128, .f32⟩
  | 124 => ⟨S64x4096x128, .f32⟩
  | 125 => ⟨S_, .f32⟩
  | 126 => ⟨S64x4096x128, .f32⟩
  | 127 => ⟨S64x4096x128, .f32⟩
  | _ => ⟨S64x128x64x64, .f32⟩

abbrev hbmTy0_3 (i : Nat) : BufTy := match i % 128 with
  | 0 => ⟨S64x4096x128, .f32⟩
  | 1 => ⟨S_, .f32⟩
  | 2 => ⟨S_, .f32⟩
  | 3 => ⟨S_, .f32⟩
  | 4 => ⟨S64x4096x128, .f32⟩
  | 5 => ⟨S64x4096x128, .f32⟩
  | 6 => ⟨S_, .f32⟩
  | 7 => ⟨S64x4096x128, .f32⟩
  | 8 => ⟨S64x4096x128, .f32⟩
  | 9 => ⟨S64x4096x128, .f32⟩
  | 10 => ⟨S64x4096x128, .i32⟩
  | 11 => ⟨S_, .i32⟩
  | 12 => ⟨S_, .i32⟩
  | 13 => ⟨S_, .i32⟩
  | 14 => ⟨S64x4096x128, .i32⟩
  | 15 => ⟨S64x4096x128, .i32⟩
  | 16 => ⟨S_, .i32⟩
  | 17 => ⟨S64x4096x128, .i32⟩
  | 18 => ⟨S64x4096x128, .i32⟩
  | 19 => ⟨S64x4096x128, .f32⟩
  | 20 => ⟨S64x4096x128, .f32⟩
  | 21 => ⟨S1x5, .f32⟩
  | 22 => ⟨S5, .f32⟩
  | 23 => ⟨S1x5, .f32⟩
  | 24 => ⟨S5, .f32⟩
  | 25 => ⟨S64x4096x128, .f32⟩
  | 26 => ⟨S64x4096x128, .f32⟩
  | 27 => ⟨S_, .f32⟩
  | 28 => ⟨S64x4096x128, .f32⟩
  | 29 => ⟨S64x4096x128, .f32⟩
  | 30 => ⟨S_, .f32⟩
  | 31 => ⟨S64x4096x128, .f32⟩
  | 32 => ⟨S64x4096x128, .f32⟩
  | 33 => ⟨S64x4096x128, .f32⟩
  | 34 => ⟨S_, .f32⟩
  | 35 => ⟨S64x4096x128, .f32⟩
  | 36 => ⟨S64x4096x128, .f32⟩
  | 37 => ⟨S_, .f32⟩
  | 38 => ⟨S64x4096x128, .f32⟩
  | 39 => ⟨S64x4096x128, .f32⟩
  | 40 => ⟨S64x4096x128, .f32⟩
  | 41 => ⟨S64x4096x128, .f32⟩
  | 42 => ⟨S_, .f32⟩
  | 43 => ⟨S64x4096x128, .f32⟩
  | 44 => ⟨S64x4096x128, .f32⟩
  | 45 => ⟨S_, .f32⟩
  | 46 => ⟨S64x4096x128, .f32⟩
  | 47 => ⟨S64x4096x128, .f32⟩
  | 48 => ⟨S64x4096x128, .f32⟩
  | 49 => ⟨S64x4096x128, .f32⟩
  | 50 => ⟨S_, .i32⟩
  | 51 => ⟨S64x4096x128, .i32⟩
  | 52 => ⟨S64x4096x128, .i1⟩
  | 53 => ⟨S_, .i32⟩
  | 54 => ⟨S64x4096x128, .i32⟩
  | 55 => ⟨S64x4096x128, .i32⟩
  | 56 => ⟨S64x4096x128, .i32⟩
  | 57 => ⟨S64x4096x128x1, .i32⟩
  | 58 => ⟨S64x4096x128, .f32⟩
  | 59 => ⟨S64x4096x128, .f32⟩
  | 60 => ⟨S_, .i32⟩
  | 61 => ⟨S64x4096x128, .i32⟩
  | 62 => ⟨S64x4096x128, .i1⟩
  | 63 => ⟨S_, .i32⟩
  | 64 => ⟨S64x4096x128, .i32⟩
  | 65 => ⟨S64x4096x128, .i32⟩
  | 66 => ⟨S64x4096x128, .i32⟩
  | 67 => ⟨S64x4096x128x1, .i32⟩
  | 68 => ⟨S64x4096x128, .f32⟩
  | 69 => ⟨S64x4096x128, .f32⟩
  | 70 => ⟨S64x4096x128, .f32⟩
  | 71 => ⟨S_, .i32⟩
  | 72 => ⟨S64x4096x128, .i32⟩
  | 73 => ⟨S64x4096x128, .i32⟩
  | 74 => ⟨S_, .i32⟩
  | 75 => ⟨S64x4096x128, .i32⟩
  | 76 => ⟨S64x4096x128, .i1⟩
  | 77 => ⟨S_, .i32⟩
  | 78 => ⟨S64x4096x128, .i32⟩
  | 79 => ⟨S64x4096x128, .i32⟩
  | 80 => ⟨S64x4096x128, .i32⟩
  | 81 => ⟨S64x4096x128x1, .i32⟩
  | 82 => ⟨S64x4096x128, .f32⟩
  | 83 => ⟨S64x4096x128, .f32⟩
  | 84 => ⟨S64x4096x128, .f32⟩
  | 85 => ⟨S_, .i32⟩
  | 86 => ⟨S64x4096x128, .i32⟩
  | 87 => ⟨S64x4096x128, .i32⟩
  | 88 => ⟨S_, .i32⟩
  | 89 => ⟨S64x4096x128, .i32⟩
  | 90 => ⟨S64x4096x128, .i1⟩
  | 91 => ⟨S_, .i32⟩
  | 92 => ⟨S64x4096x128, .i32⟩
  | 93 => ⟨S64x4096x128, .i32⟩
  | 94 => ⟨S64x4096x128, .i32⟩
  | 95 => ⟨S64x4096x128x1, .i32⟩
  | 96 => ⟨S64x4096x128, .f32⟩
  | 97 => ⟨S64x4096x128, .f32⟩
  | 98 => ⟨S64x4096x128, .f32⟩
  | 99 => ⟨S1x5, .f32⟩
  | 100 => ⟨S5, .f32⟩
  | 101 => ⟨S1x5, .f32⟩
  | 102 => ⟨S5, .f32⟩
  | 103 => ⟨S64x4096x128, .f32⟩
  | 104 => ⟨S64x4096x128, .f32⟩
  | 105 => ⟨S_, .f32⟩
  | 106 => ⟨S64x4096x128, .f32⟩
  | 107 => ⟨S64x4096x128, .f32⟩
  | 108 => ⟨S_, .f32⟩
  | 109 => ⟨S64x4096x128, .f32⟩
  | 110 => ⟨S64x4096x128, .f32⟩
  | 111 => ⟨S64x4096x128, .f32⟩
  | 112 => ⟨S_, .f32⟩
  | 113 => ⟨S64x4096x128, .f32⟩
  | 114 => ⟨S64x4096x128, .f32⟩
  | 115 => ⟨S_, .f32⟩
  | 116 => ⟨S64x4096x128, .f32⟩
  | 117 => ⟨S64x4096x128, .f32⟩
  | 118 => ⟨S64x4096x128, .f32⟩
  | 119 => ⟨S64x4096x128, .f32⟩
  | 120 => ⟨S_, .f32⟩
  | 121 => ⟨S64x4096x128, .f32⟩
  | 122 => ⟨S64x4096x128, .f32⟩
  | 123 => ⟨S_, .f32⟩
  | 124 => ⟨S64x4096x128, .f32⟩
  | 125 => ⟨S64x4096x128, .f32⟩
  | 126 => ⟨S64x4096x128, .f32⟩
  | 127 => ⟨S64x4096x128, .f32⟩
  | _ => ⟨S64x128x64x64, .f32⟩

abbrev hbmTy0_4 (i : Nat) : BufTy := match i % 128 with
  | 0 => ⟨S_, .i32⟩
  | 1 => ⟨S64x4096x128, .i32⟩
  | 2 => ⟨S64x4096x128, .i1⟩
  | 3 => ⟨S_, .i32⟩
  | 4 => ⟨S64x4096x128, .i32⟩
  | 5 => ⟨S64x4096x128, .i32⟩
  | 6 => ⟨S64x4096x128, .i32⟩
  | 7 => ⟨S64x4096x128x1, .i32⟩
  | 8 => ⟨S64x4096x128, .f32⟩
  | 9 => ⟨S64x4096x128, .f32⟩
  | 10 => ⟨S_, .i32⟩
  | 11 => ⟨S64x4096x128, .i32⟩
  | 12 => ⟨S64x4096x128, .i1⟩
  | 13 => ⟨S_, .i32⟩
  | 14 => ⟨S64x4096x128, .i32⟩
  | 15 => ⟨S64x4096x128, .i32⟩
  | 16 => ⟨S64x4096x128, .i32⟩
  | 17 => ⟨S64x4096x128x1, .i32⟩
  | 18 => ⟨S64x4096x128, .f32⟩
  | 19 => ⟨S64x4096x128, .f32⟩
  | 20 => ⟨S64x4096x128, .f32⟩
  | 21 => ⟨S_, .i32⟩
  | 22 => ⟨S64x4096x128, .i32⟩
  | 23 => ⟨S64x4096x128, .i32⟩
  | 24 => ⟨S_, .i32⟩
  | 25 => ⟨S64x4096x128, .i32⟩
  | 26 => ⟨S64x4096x128, .i1⟩
  | 27 => ⟨S_, .i32⟩
  | 28 => ⟨S64x4096x128, .i32⟩
  | 29 => ⟨S64x4096x128, .i32⟩
  | 30 => ⟨S64x4096x128, .i32⟩
  | 31 => ⟨S64x4096x128x1, .i32⟩
  | 32 => ⟨S64x4096x128, .f32⟩
  | 33 => ⟨S64x4096x128, .f32⟩
  | 34 => ⟨S64x4096x128, .f32⟩
  | 35 => ⟨S_, .i32⟩
  | 36 => ⟨S64x4096x128, .i32⟩
  | 37 => ⟨S64x4096x128, .i32⟩
  | 38 => ⟨S_, .i32⟩
  | 39 => ⟨S64x4096x128, .i32⟩
  | 40 => ⟨S64x4096x128, .i1⟩
  | 41 => ⟨S_, .i32⟩
  | 42 => ⟨S64x4096x128, .i32⟩
  | 43 => ⟨S64x4096x128, .i32⟩
  | 44 => ⟨S64x4096x128, .i32⟩
  | 45 => ⟨S64x4096x128x1, .i32⟩
  | 46 => ⟨S64x4096x128, .f32⟩
  | 47 => ⟨S64x4096x128, .f32⟩
  | 48 => ⟨S64x4096x128, .f32⟩
  | 49 => ⟨S64x4096x128, .f32⟩
  | 50 => ⟨S64x4096x128, .f32⟩
  | 51 => ⟨S64x4096x128, .f32⟩
  | 52 => ⟨S64x4096x128, .f32⟩
  | 53 => ⟨S64x4096x128, .f32⟩
  | 54 => ⟨S64x4096x128, .f32⟩
  | 55 => ⟨S_, .f32⟩
  | 56 => ⟨S64x4096x128, .f32⟩
  | 57 => ⟨S64x4096x128, .f32⟩
  | 58 => ⟨S64x4096x128, .f32⟩
  | 59 => ⟨S_, .f32⟩
  | 60 => ⟨S64x4096x128, .f32⟩
  | 61 => ⟨S64x4096x128, .f32⟩
  | 62 => ⟨S64x128x4096, .f32⟩
  | 63 => ⟨S64x128x64x64, .f32⟩
  | 64 => ⟨S_, .f32⟩
  | 65 => ⟨S64x128x64x64, .f32⟩
  | 66 => ⟨S64x128x64x64, .f32⟩
  | _ => ⟨S64x128x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x128x64x64, .f32⟩

abbrev bufTy : (tb : Table) → Fin (tcTables nBuf tb) → BufTy
  | .hbm, ⟨i, _⟩ => hbmTy i
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_c_14 : Ref sig .tc := ⟨.hbm, 86, rfl⟩
abbrev main_v55 : Ref sig .tc := ⟨.hbm, 87, rfl⟩
abbrev main_v56 : Ref sig .tc := ⟨.hbm, 88, rfl⟩
abbrev main_c_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_c_17 : Ref sig .tc := ⟨.hbm, 100, rfl⟩
abbrev main_v66 : Ref sig .tc := ⟨.hbm, 101, rfl⟩
abbrev main_v67 : Ref sig .tc := ⟨.hbm, 102, rfl⟩
abbrev main_c_18 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_cst_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_23 : Ref sig .tc := ⟨.hbm, 132, rfl⟩
abbrev main_v92 : Ref sig .tc := ⟨.hbm, 133, rfl⟩
abbrev main_v93 : Ref sig .tc := ⟨.hbm, 134, rfl⟩
abbrev main_cst_24 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_25 : Ref sig .tc := ⟨.hbm, 140, rfl⟩
abbrev main_v98 : Ref sig .tc := ⟨.hbm, 141, rfl⟩
abbrev main_v99 : Ref sig .tc := ⟨.hbm, 142, rfl⟩
abbrev main_c_26 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_27 : Ref sig .tc := ⟨.hbm, 150, rfl⟩
abbrev main_v106 : Ref sig .tc := ⟨.hbm, 151, rfl⟩
abbrev main_v107 : Ref sig .tc := ⟨.hbm, 152, rfl⟩
abbrev main_c_28 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_29 : Ref sig .tc := ⟨.hbm, 161, rfl⟩
abbrev main_v115 : Ref sig .tc := ⟨.hbm, 162, rfl⟩
abbrev main_v116 : Ref sig .tc := ⟨.hbm, 163, rfl⟩
abbrev main_c_30 : Ref sig .tc := ⟨.hbm, 164, rfl⟩
abbrev main_v117 : Ref sig .tc := ⟨.hbm, 165, rfl⟩
abbrev main_v118 : Ref sig .tc := ⟨.hbm, 166, rfl⟩
abbrev main_c_31 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_32 : Ref sig .tc := ⟨.hbm, 175, rfl⟩
abbrev main_v126 : Ref sig .tc := ⟨.hbm, 176, rfl⟩
abbrev main_v127 : Ref sig .tc := ⟨.hbm, 177, rfl⟩
abbrev main_c_33 : Ref sig .tc := ⟨.hbm, 178, rfl⟩
abbrev main_v128 : Ref sig .tc := ⟨.hbm, 179, rfl⟩
abbrev main_v129 : Ref sig .tc := ⟨.hbm, 180, rfl⟩
abbrev main_c_34 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_35 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_36 : Ref sig .tc := ⟨.hbm, 199, rfl⟩
abbrev main_cst_37 : Ref sig .tc := ⟨.hbm, 200, rfl⟩
abbrev main_call2_v0 : Ref sig .tc := ⟨.hbm, 201, rfl⟩
abbrev main_call2_v1 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_38 : Ref sig .tc := ⟨.hbm, 209, rfl⟩
abbrev main_c_39 : Ref sig .tc := ⟨.hbm, 210, rfl⟩
abbrev main_call3_v0 : Ref sig .tc := ⟨.hbm, 211, rfl⟩
abbrev main_call3_v1 : Ref sig .tc := ⟨.hbm, 212, rfl⟩
abbrev main_call3_v2 : Ref sig .tc := ⟨.hbm, 213, rfl⟩
abbrev main_call3_v3 : Ref sig .tc := ⟨.hbm, 214, rfl⟩
abbrev main_call3_v4 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_40 : Ref sig .tc := ⟨.hbm, 225, rfl⟩
abbrev main_v158 : Ref sig .tc := ⟨.hbm, 226, rfl⟩
abbrev main_v159 : Ref sig .tc := ⟨.hbm, 227, rfl⟩
abbrev main_cst_41 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_cst_42 : Ref sig .tc := ⟨.hbm, 232, rfl⟩
abbrev main_v163 : Ref sig .tc := ⟨.hbm, 233, rfl⟩
abbrev main_v164 : Ref sig .tc := ⟨.hbm, 234, rfl⟩
abbrev main_cst_43 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_44 : Ref sig .tc := ⟨.hbm, 240, rfl⟩
abbrev main_v169 : Ref sig .tc := ⟨.hbm, 241, rfl⟩
abbrev main_v170 : Ref sig .tc := ⟨.hbm, 242, rfl⟩
abbrev main_cst_45 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_c_46 : Ref sig .tc := ⟨.hbm, 248, rfl⟩
abbrev main_v175 : Ref sig .tc := ⟨.hbm, 249, rfl⟩
abbrev main_v176 : Ref sig .tc := ⟨.hbm, 250, rfl⟩
abbrev main_c_47 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_c_48 : Ref sig .tc := ⟨.hbm, 258, rfl⟩
abbrev main_v183 : Ref sig .tc := ⟨.hbm, 259, rfl⟩
abbrev main_v184 : Ref sig .tc := ⟨.hbm, 260, rfl⟩
abbrev main_c_49 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_c_50 : Ref sig .tc := ⟨.hbm, 269, rfl⟩
abbrev main_v192 : Ref sig .tc := ⟨.hbm, 270, rfl⟩
abbrev main_v193 : Ref sig .tc := ⟨.hbm, 271, rfl⟩
abbrev main_c_51 : Ref sig .tc := ⟨.hbm, 272, rfl⟩
abbrev main_v194 : Ref sig .tc := ⟨.hbm, 273, rfl⟩
abbrev main_v195 : Ref sig .tc := ⟨.hbm, 274, rfl⟩
abbrev main_c_52 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_c_53 : Ref sig .tc := ⟨.hbm, 283, rfl⟩
abbrev main_v203 : Ref sig .tc := ⟨.hbm, 284, rfl⟩
abbrev main_v204 : Ref sig .tc := ⟨.hbm, 285, rfl⟩
abbrev main_c_54 : Ref sig .tc := ⟨.hbm, 286, rfl⟩
abbrev main_v205 : Ref sig .tc := ⟨.hbm, 287, rfl⟩
abbrev main_v206 : Ref sig .tc := ⟨.hbm, 288, rfl⟩
abbrev main_c_55 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_cst_56 : Ref sig .tc := ⟨.hbm, 303, rfl⟩
abbrev main_v220 : Ref sig .tc := ⟨.hbm, 304, rfl⟩
abbrev main_v221 : Ref sig .tc := ⟨.hbm, 305, rfl⟩
abbrev main_cst_57 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_cst_58 : Ref sig .tc := ⟨.hbm, 310, rfl⟩
abbrev main_v225 : Ref sig .tc := ⟨.hbm, 311, rfl⟩
abbrev main_v226 : Ref sig .tc := ⟨.hbm, 312, rfl⟩
abbrev main_cst_59 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_cst_60 : Ref sig .tc := ⟨.hbm, 318, rfl⟩
abbrev main_v231 : Ref sig .tc := ⟨.hbm, 319, rfl⟩
abbrev main_v232 : Ref sig .tc := ⟨.hbm, 320, rfl⟩
abbrev main_cst_61 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_c_62 : Ref sig .tc := ⟨.hbm, 326, rfl⟩
abbrev main_v237 : Ref sig .tc := ⟨.hbm, 327, rfl⟩
abbrev main_v238 : Ref sig .tc := ⟨.hbm, 328, rfl⟩
abbrev main_c_63 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_c_64 : Ref sig .tc := ⟨.hbm, 336, rfl⟩
abbrev main_v245 : Ref sig .tc := ⟨.hbm, 337, rfl⟩
abbrev main_v246 : Ref sig .tc := ⟨.hbm, 338, rfl⟩
abbrev main_c_65 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_c_66 : Ref sig .tc := ⟨.hbm, 347, rfl⟩
abbrev main_v254 : Ref sig .tc := ⟨.hbm, 348, rfl⟩
abbrev main_v255 : Ref sig .tc := ⟨.hbm, 349, rfl⟩
abbrev main_c_67 : Ref sig .tc := ⟨.hbm, 350, rfl⟩
abbrev main_v256 : Ref sig .tc := ⟨.hbm, 351, rfl⟩
abbrev main_v257 : Ref sig .tc := ⟨.hbm, 352, rfl⟩
abbrev main_c_68 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_c_69 : Ref sig .tc := ⟨.hbm, 361, rfl⟩
abbrev main_v265 : Ref sig .tc := ⟨.hbm, 362, rfl⟩
abbrev main_v266 : Ref sig .tc := ⟨.hbm, 363, rfl⟩
abbrev main_c_70 : Ref sig .tc := ⟨.hbm, 364, rfl⟩
abbrev main_v267 : Ref sig .tc := ⟨.hbm, 365, rfl⟩
abbrev main_v268 : Ref sig .tc := ⟨.hbm, 366, rfl⟩
abbrev main_c_71 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_cst_72 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_cst_73 : Ref sig .tc := ⟨.hbm, 385, rfl⟩
abbrev main_cst_74 : Ref sig .tc := ⟨.hbm, 386, rfl⟩
abbrev main_call4_v0 : Ref sig .tc := ⟨.hbm, 387, rfl⟩
abbrev main_call4_v1 : Ref sig .tc := ⟨.hbm, 388, rfl⟩
abbrev main_call4_v2 : Ref sig .tc := ⟨.hbm, 389, rfl⟩
abbrev main_call4_v3 : Ref sig .tc := ⟨.hbm, 390, rfl⟩
abbrev main_call4_v4 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_c_75 : Ref sig .tc := ⟨.hbm, 395, rfl⟩
abbrev main_c_76 : Ref sig .tc := ⟨.hbm, 396, rfl⟩
abbrev main_call5_v0 : Ref sig .tc := ⟨.hbm, 397, rfl⟩
abbrev main_call5_v1 : Ref sig .tc := ⟨.hbm, 398, rfl⟩
abbrev main_call5_v2 : Ref sig .tc := ⟨.hbm, 399, rfl⟩
abbrev main_call5_v3 : Ref sig .tc := ⟨.hbm, 400, rfl⟩
abbrev main_call5_v4 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_cst_77 : Ref sig .tc := ⟨.hbm, 411, rfl⟩
abbrev main_v297 : Ref sig .tc := ⟨.hbm, 412, rfl⟩
abbrev main_v298 : Ref sig .tc := ⟨.hbm, 413, rfl⟩
abbrev main_cst_78 : Ref sig .tc := ⟨.hbm, 414, rfl⟩
abbrev main_v299 : Ref sig .tc := ⟨.hbm, 415, rfl⟩
abbrev main_v300 : Ref sig .tc := ⟨.hbm, 416, rfl⟩
abbrev main_v301 : Ref sig .tc := ⟨.hbm, 417, rfl⟩
abbrev main_cst_79 : Ref sig .tc := ⟨.hbm, 418, rfl⟩
abbrev main_v302 : Ref sig .tc := ⟨.hbm, 419, rfl⟩
abbrev main_v303 : Ref sig .tc := ⟨.hbm, 420, rfl⟩
abbrev main_cst_80 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_cst_81 : Ref sig .tc := ⟨.hbm, 426, rfl⟩
abbrev main_v308 : Ref sig .tc := ⟨.hbm, 427, rfl⟩
abbrev main_v309 : Ref sig .tc := ⟨.hbm, 428, rfl⟩
abbrev main_cst_82 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_c_83 : Ref sig .tc := ⟨.hbm, 434, rfl⟩
abbrev main_v314 : Ref sig .tc := ⟨.hbm, 435, rfl⟩
abbrev main_v315 : Ref sig .tc := ⟨.hbm, 436, rfl⟩
abbrev main_c_84 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_c_85 : Ref sig .tc := ⟨.hbm, 444, rfl⟩
abbrev main_v322 : Ref sig .tc := ⟨.hbm, 445, rfl⟩
abbrev main_v323 : Ref sig .tc := ⟨.hbm, 446, rfl⟩
abbrev main_c_86 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_c_87 : Ref sig .tc := ⟨.hbm, 455, rfl⟩
abbrev main_v331 : Ref sig .tc := ⟨.hbm, 456, rfl⟩
abbrev main_v332 : Ref sig .tc := ⟨.hbm, 457, rfl⟩
abbrev main_c_88 : Ref sig .tc := ⟨.hbm, 458, rfl⟩
abbrev main_v333 : Ref sig .tc := ⟨.hbm, 459, rfl⟩
abbrev main_v334 : Ref sig .tc := ⟨.hbm, 460, rfl⟩
abbrev main_c_89 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_v338 : Ref sig .tc := ⟨.hbm, 465, rfl⟩
abbrev main_v339 : Ref sig .tc := ⟨.hbm, 466, rfl⟩
abbrev main_v340 : Ref sig .tc := ⟨.hbm, 467, rfl⟩
abbrev main_v341 : Ref sig .tc := ⟨.hbm, 468, rfl⟩
abbrev main_c_90 : Ref sig .tc := ⟨.hbm, 469, rfl⟩
abbrev main_v342 : Ref sig .tc := ⟨.hbm, 470, rfl⟩
abbrev main_v343 : Ref sig .tc := ⟨.hbm, 471, rfl⟩
abbrev main_c_91 : Ref sig .tc := ⟨.hbm, 472, rfl⟩
abbrev main_v344 : Ref sig .tc := ⟨.hbm, 473, rfl⟩
abbrev main_v345 : Ref sig .tc := ⟨.hbm, 474, rfl⟩
abbrev main_c_92 : Ref sig .tc := ⟨.hbm, 475, rfl⟩
abbrev main_v346 : Ref sig .tc := ⟨.hbm, 476, rfl⟩
abbrev main_v347 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_v353 : Ref sig .tc := ⟨.hbm, 483, rfl⟩
abbrev main_v354 : Ref sig .tc := ⟨.hbm, 484, rfl⟩
abbrev main_v355 : Ref sig .tc := ⟨.hbm, 485, rfl⟩
abbrev main_v356 : Ref sig .tc := ⟨.hbm, 486, rfl⟩
abbrev main_v357 : Ref sig .tc := ⟨.hbm, 487, rfl⟩
abbrev main_v358 : Ref sig .tc := ⟨.hbm, 488, rfl⟩
abbrev main_cst_93 : Ref sig .tc := ⟨.hbm, 489, rfl⟩
abbrev main_v359 : Ref sig .tc := ⟨.hbm, 490, rfl⟩
abbrev main_v360 : Ref sig .tc := ⟨.hbm, 491, rfl⟩
abbrev main_cst_94 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_cst_95 : Ref sig .tc := ⟨.hbm, 496, rfl⟩
abbrev main_v364 : Ref sig .tc := ⟨.hbm, 497, rfl⟩
abbrev main_v365 : Ref sig .tc := ⟨.hbm, 498, rfl⟩
abbrev main_cst_96 : Ref sig .tc := ⟨.hbm, 499, rfl⟩
abbrev main_v366 : Ref sig .tc := ⟨.hbm, 500, rfl⟩
abbrev main_v367 : Ref sig .tc := ⟨.hbm, 501, rfl⟩
abbrev main_v368 : Ref sig .tc := ⟨.hbm, 502, rfl⟩
abbrev main_v369 : Ref sig .tc := ⟨.hbm, 503, rfl⟩
abbrev main_cst_97 : Ref sig .tc := ⟨.hbm, 504, rfl⟩
abbrev main_v370 : Ref sig .tc := ⟨.hbm, 505, rfl⟩
abbrev main_v371 : Ref sig .tc := ⟨.hbm, 506, rfl⟩
abbrev main_cst_98 : Ref sig .tc := ⟨.hbm, 507, rfl⟩
abbrev main_v372 : Ref sig .tc := ⟨.hbm, 508, rfl⟩
abbrev main_v373 : Ref sig .tc := ⟨.hbm, 509, rfl⟩
abbrev main_v374 : Ref sig .tc := ⟨.hbm, 510, rfl⟩
abbrev main_v375 : Ref sig .tc := ⟨.hbm, 511, rfl⟩
abbrev main_c_99 : Ref sig .tc := ⟨.hbm, 512, rfl⟩
abbrev main_v376 : Ref sig .tc := ⟨.hbm, 513, rfl⟩
abbrev main_v377 : Ref sig .tc := ⟨.hbm, 514, rfl⟩
abbrev main_c_100 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_v381 : Ref sig .tc := ⟨.hbm, 519, rfl⟩
abbrev main_v382 : Ref sig .tc := ⟨.hbm, 520, rfl⟩
abbrev main_v383 : Ref sig .tc := ⟨.hbm, 521, rfl⟩
abbrev main_c_101 : Ref sig .tc := ⟨.hbm, 522, rfl⟩
abbrev main_v384 : Ref sig .tc := ⟨.hbm, 523, rfl⟩
abbrev main_v385 : Ref sig .tc := ⟨.hbm, 524, rfl⟩
abbrev main_c_102 : Ref sig .tc := ⟨.hbm, 525, rfl⟩
abbrev main_v386 : Ref sig .tc := ⟨.hbm, 526, rfl⟩
abbrev main_v387 : Ref sig .tc := ⟨.hbm, 527, rfl⟩
abbrev main_v388 : Ref sig .tc := ⟨.hbm, 528, rfl⟩
abbrev main_v389 : Ref sig .tc := ⟨.hbm, 529, rfl⟩
abbrev main_v390 : Ref sig .tc := ⟨.hbm, 530, rfl⟩
abbrev main_v391 : Ref sig .tc := ⟨.hbm, 531, rfl⟩
abbrev main_v392 : Ref sig .tc := ⟨.hbm, 532, rfl⟩
abbrev main_c_103 : Ref sig .tc := ⟨.hbm, 533, rfl⟩
abbrev main_v393 : Ref sig .tc := ⟨.hbm, 534, rfl⟩
abbrev main_v394 : Ref sig .tc := ⟨.hbm, 535, rfl⟩
abbrev main_c_104 : Ref sig .tc := ⟨.hbm, 536, rfl⟩
abbrev main_v395 : Ref sig .tc := ⟨.hbm, 537, rfl⟩
abbrev main_v396 : Ref sig .tc := ⟨.hbm, 538, rfl⟩
abbrev main_c_105 : Ref sig .tc := ⟨.hbm, 539, rfl⟩
abbrev main_v397 : Ref sig .tc := ⟨.hbm, 540, rfl⟩
abbrev main_v398 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_v403 : Ref sig .tc := ⟨.hbm, 546, rfl⟩
abbrev main_c_106 : Ref sig .tc := ⟨.hbm, 547, rfl⟩
abbrev main_v404 : Ref sig .tc := ⟨.hbm, 548, rfl⟩
abbrev main_v405 : Ref sig .tc := ⟨.hbm, 549, rfl⟩
abbrev main_c_107 : Ref sig .tc := ⟨.hbm, 550, rfl⟩
abbrev main_v406 : Ref sig .tc := ⟨.hbm, 551, rfl⟩
abbrev main_v407 : Ref sig .tc := ⟨.hbm, 552, rfl⟩
abbrev main_c_108 : Ref sig .tc := ⟨.hbm, 553, rfl⟩
abbrev main_v408 : Ref sig .tc := ⟨.hbm, 554, rfl⟩
abbrev main_v409 : Ref sig .tc := ⟨.hbm, 555, rfl⟩
abbrev main_v410 : Ref sig .tc := ⟨.hbm, 556, rfl⟩
abbrev main_v411 : Ref sig .tc := ⟨.hbm, 557, rfl⟩
abbrev main_v412 : Ref sig .tc := ⟨.hbm, 558, rfl⟩
abbrev main_v413 : Ref sig .tc := ⟨.hbm, 559, rfl⟩
abbrev main_v414 : Ref sig .tc := ⟨.hbm, 560, rfl⟩
abbrev main_v415 : Ref sig .tc := ⟨.hbm, 561, rfl⟩
abbrev main_v416 : Ref sig .tc := ⟨.hbm, 562, rfl⟩
abbrev main_v417 : Ref sig .tc := ⟨.hbm, 563, rfl⟩
abbrev main_v418 : Ref sig .tc := ⟨.hbm, 564, rfl⟩
abbrev main_v419 : Ref sig .tc := ⟨.hbm, 565, rfl⟩
abbrev main_v420 : Ref sig .tc := ⟨.hbm, 566, rfl⟩
abbrev main_cst_109 : Ref sig .tc := ⟨.hbm, 567, rfl⟩
abbrev main_v421 : Ref sig .tc := ⟨.hbm, 568, rfl⟩
abbrev main_v422 : Ref sig .tc := ⟨.hbm, 569, rfl⟩
abbrev main_v423 : Ref sig .tc := ⟨.hbm, 570, rfl⟩
abbrev main_v424 : Ref sig .tc := ⟨.hbm, 571, rfl⟩
abbrev main_v425 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_cst_110 : Ref sig .tc := ⟨.hbm, 576, rfl⟩
abbrev main_v429 : Ref sig .tc := ⟨.hbm, 577, rfl⟩
abbrev main_v430 : Ref sig .tc := ⟨.hbm, 578, rfl⟩

abbrev nD : Nat := 1
abbrev τ : Topo := Topo.v7x

variable {F : FTy → Type} [FloatOps F]
-- ==== Proof.FlowScalar.lean ====
/-
  The flow on ONE number, over the extended reals, in the two spellings the two programs use, and their equality.

  `clampT`, `segF`, `frac` locate a number on the knots 0, 1, 2, 3, 4. The kernel picks the coefficients of the
  segment's cubic and evaluates it by Horner's scheme (`cubicSpline`); the reference reads knot values and tangents
  at the segment's two ends and combines them with the Hermite weights (`hermiteSpline`). `cubicStep` and
  `hermiteStep` are one Euler step of each program. `step_eq`: over tables of real numbers the two steps agree at
  every extended real.
-/
module

public import Idealize.ShloMosaic.Lib.ValueIdx
public import Idealize.ShloMosaic.Lib.IdealHost

@[expose] public section

noncomputable section

namespace Flow

open Idealize.ShloMosaic

/-- The number a 32-bit pattern denotes. -/
abbrev lit (b : BitVec 32) : EReal := Ideal.ofBits .f32 b

/-! ## Locating a number on the knots -/

/-- The number moved into [0, 4]. -/
def clampT (x : EReal) : EReal := min (lit 0x40800000#32) (max (lit 0x00000000#32) x)
/-- The left knot of its segment, as a number. -/
def segF (x : EReal) : EReal :=
  min (lit 0x40400000#32) (max (lit 0x00000000#32) (Ideal.liftRound Int.floor (clampT x)))
/-- Its place in the segment. -/
def frac (x : EReal) : EReal := clampT x - segF x
/-- The left knot as a 32-bit word. -/
def segW (x : EReal) : BitVec 32 :=
  IntOp.minsi 3#32 (IntOp.maxsi 0#32 (Ideal.fptosi 32 (Ideal.liftRound Int.floor (clampT x))))
/-- The place in the segment, from the word. -/
def fracW (x : EReal) : EReal := clampT x - (FloatOps.sitofp (F := Ideal) .f32 (segW x) : EReal)

/-! ## The kernel's spelling -/

/-- The entry of four that belongs to the number's segment, chosen by three comparisons. -/
def pick (x a b c d : EReal) : EReal :=
  Scalar.select (Ideal.cmp .olt (segF x) (lit 0x3F800000#32)) a
    (Scalar.select (Ideal.cmp .olt (segF x) (lit 0x40000000#32)) b
      (Scalar.select (Ideal.cmp .olt (segF x) (lit 0x40400000#32)) c d))
/-- The square's coefficient of the segment with end values `v`, `w` and end tangents `m`, `n`. -/
def sqCoeff (v m w n : EReal) : EReal :=
  lit 0xC0400000#32 * v - lit 0x40000000#32 * m + lit 0x40400000#32 * w - n
/-- The cube's coefficient. -/
def cuCoeff (v m w n : EReal) : EReal :=
  lit 0x40000000#32 * v + m - lit 0x40000000#32 * w + n
/-- Row 0 of `T` holds the knots' values, row 1 their tangents; the segment's cubic by Horner's scheme. -/
def cubicSpline (T : Fin 2 → Fin 5 → EReal) (x : EReal) : EReal :=
  pick x (T 0 0) (T 0 1) (T 0 2) (T 0 3)
    + frac x * (pick x (T 1 0) (T 1 1) (T 1 2) (T 1 3)
      + frac x * (pick x (sqCoeff (T 0 0) (T 1 0) (T 0 1) (T 1 1)) (sqCoeff (T 0 1) (T 1 1) (T 0 2) (T 1 2))
            (sqCoeff (T 0 2) (T 1 2) (T 0 3) (T 1 3)) (sqCoeff (T 0 3) (T 1 3) (T 0 4) (T 1 4))
        + frac x * pick x (cuCoeff (T 0 0) (T 1 0) (T 0 1) (T 1 1)) (cuCoeff (T 0 1) (T 1 1) (T 0 2) (T 1 2))
            (cuCoeff (T 0 2) (T 1 2) (T 0 3) (T 1 3)) (cuCoeff (T 0 3) (T 1 3) (T 0 4) (T 1 4))))
/-- One step of the kernel. -/
def cubicStep (V A : Fin 2 → Fin 5 → EReal) (x : EReal) : EReal :=
  x + lit 0x3EAAAAAB#32 * cubicSpline V x * (Ideal.cos (cubicSpline A x) + x * Ideal.sin (cubicSpline A x))
/-- What the kernel makes of one entry. -/
def kernelFlow (V A : Fin 2 → Fin 5 → EReal) (ct st d : EReal) : EReal :=
  cubicStep V A (cubicStep V A (cubicStep V A (d * (ct * lit 0x3F966CFE#32)))) * Ideal.div st (lit 0x3F966CFE#32)

/-! ## The reference's spelling -/

/-- A knot number read as an index counted from the front, or from the back where it is negative. -/
def wrapW (i : BitVec 32) : BitVec 32 := Scalar.select (IntOp.cmpi .slt i 0#32) (IntOp.addi i 5#32) i
/-- A row of five entries at a word. -/
def entry (R : Fin 5 → EReal) (i : BitVec 32) : EReal := R ⟨min i.toInt.toNat 4, by omega⟩
/-- The Hermite combination of the entries at the word `i` and the one after it, at place `u`. -/
def hermite (V M : Fin 5 → EReal) (i : BitVec 32) (u : EReal) : EReal :=
  (((lit 0x40000000#32 * (u * u * u) - lit 0x40400000#32 * (u * u) + lit 0x3F800000#32) * entry V (wrapW i)
      + (u * u * u - lit 0x40000000#32 * (u * u) + u) * entry M (wrapW i))
      + (lit 0xC0000000#32 * (u * u * u) + lit 0x40400000#32 * (u * u)) * entry V (wrapW (IntOp.addi i 1#32)))
      + (u * u * u - u * u) * entry M (wrapW (IntOp.addi i 1#32))
/-- The reference's spline. -/
def hermiteSpline (T : Fin 2 → Fin 5 → EReal) (x : EReal) : EReal := hermite (T 0) (T 1) (segW x) (fracW x)
/-- One step of the reference. -/
def hermiteStep (V A : Fin 2 → Fin 5 → EReal) (x : EReal) : EReal :=
  x + (hermiteSpline V x * Ideal.cos (hermiteSpline A x)
    + x * hermiteSpline V x * Ideal.sin (hermiteSpline A x)) * lit 0x3EAAAAAB#32
/-- What the reference makes of one entry. -/
def referenceFlow (V A : Fin 2 → Fin 5 → EReal) (ct st d : EReal) : EReal :=
  Ideal.div (hermiteStep V A (hermiteStep V A (hermiteStep V A (d * lit 0x3F966CFE#32 * ct))) * st)
    (lit 0x3F966CFE#32)

/-! ## The literals -/

theorem lit_zero : lit 0x00000000#32 = ((0 : ℝ) : EReal) := by
  simp [lit, Ideal.ofBits, Ideal.ieee]
theorem lit_one : lit 0x3F800000#32 = ((1 : ℝ) : EReal) := by
  simp [lit, Ideal.ofBits, Ideal.ieee]; norm_cast; norm_num
theorem lit_two : lit 0x40000000#32 = ((2 : ℝ) : EReal) := by
  simp [lit, Ideal.ofBits, Ideal.ieee]; norm_cast; norm_num
theorem lit_three : lit 0x40400000#32 = ((3 : ℝ) : EReal) := by
  simp [lit, Ideal.ofBits, Ideal.ieee]; norm_cast; norm_num
theorem lit_four : lit 0x40800000#32 = ((4 : ℝ) : EReal) := by
  simp [lit, Ideal.ofBits, Ideal.ieee]; norm_cast; norm_num
theorem lit_neg_two : lit 0xC0000000#32 = ((-2 : ℝ) : EReal) := by
  simp [lit, Ideal.ofBits, Ideal.ieee]; norm_cast; norm_num
theorem lit_neg_three : lit 0xC0400000#32 = ((-3 : ℝ) : EReal) := by
  simp [lit, Ideal.ofBits, Ideal.ieee]; norm_cast; norm_num
/-- The step width is a real number. -/
theorem lit_step : ∃ r : ℝ, lit 0x3EAAAAAB#32 = (r : EReal) := by
  refine ⟨11184811 / 33554432, ?_⟩
  simp [lit, Ideal.ofBits, Ideal.ieee]; norm_cast
/-- The input scale is not zero. -/
theorem lit_scale_ne_zero : lit 0x3F966CFE#32 ≠ 0 := by
  simp [lit, Ideal.ofBits, Ideal.ieee]

/-! ## The segment -/

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

/-- A clamped number is a real one between 0 and 4. -/
theorem clampT_real (x : EReal) : ∃ r : ℝ, clampT x = (r : EReal) ∧ 0 ≤ r ∧ r ≤ 4 := by
  unfold clampT
  rw [lit_zero, lit_four]
  induction x with
  | bot => exact ⟨0, by simp, by norm_num, by norm_num⟩
  | top => exact ⟨4, by simp, by norm_num, by norm_num⟩
  | coe r =>
    refine ⟨min 4 (max 0 r), ?_, by simp, by simp⟩
    rw [coe_min', coe_max']

/-- Both spellings name the same segment, one of four. -/
theorem segment (x : EReal) :
    ∃ k : Fin 4, segF x = ((k.val : ℝ) : EReal) ∧ segW x = BitVec.ofNat 32 k.val := by
  obtain ⟨r, hr, h0, h4⟩ := clampT_real x
  have hn0 : (0 : ℤ) ≤ ⌊r⌋ := Int.floor_nonneg.mpr h0
  have hn4 : ⌊r⌋ ≤ 4 := by
    have : ⌊r⌋ ≤ ⌊(4 : ℝ)⌋ := Int.floor_le_floor h4
    simpa using this
  unfold segF segW
  rw [hr, lit_zero, lit_three]
  show ∃ k : Fin 4, min ((3 : ℝ) : EReal) (max ((0 : ℝ) : EReal) (((⌊r⌋ : ℝ)) : EReal)) = _ ∧
    IntOp.minsi 3#32 (IntOp.maxsi 0#32 (BitVec.ofInt 32 (max _ (min _ (if (0 : ℝ) ≤ (⌊r⌋ : ℝ) then ⌊(⌊r⌋ : ℝ)⌋ else ⌈(⌊r⌋ : ℝ)⌉))))) = _
  rw [Int.floor_intCast, Int.ceil_intCast, ite_self]
  generalize ⌊r⌋ = n at hn0 hn4 ⊢
  rw [← coe_max', ← coe_min']
  interval_cases n
  · exact ⟨0, by norm_num, by decide⟩
  · exact ⟨1, by norm_num, by decide⟩
  · exact ⟨2, by norm_num, by decide⟩
  · exact ⟨3, by norm_num, by decide⟩
  · exact ⟨3, by norm_num, by decide⟩

/-- Both spellings give the same place in the segment, a real number. -/
theorem place (x : EReal) : ∃ u : ℝ, frac x = (u : EReal) ∧ fracW x = (u : EReal) := by
  obtain ⟨r, hr, -, -⟩ := clampT_real x
  obtain ⟨k, hF, hW⟩ := segment x
  refine ⟨r - k.val, ?_, ?_⟩
  · unfold frac; rw [hr, hF, EReal.coe_sub]
  · unfold fracW
    rw [hr, hW, EReal.coe_sub]
    congr 1
    show (((BitVec.ofNat 32 k.val).toInt : ℝ) : EReal) = _
    fin_cases k <;> norm_num [BitVec.toInt]

/-- Three comparisons pick the segment's own entry of four. -/
theorem pick_eq {x : EReal} {k : Fin 4} (hF : segF x = ((k.val : ℝ) : EReal)) (f : Fin 4 → EReal) :
    pick x (f 0) (f 1) (f 2) (f 3) = f k := by
  have below (c : ℝ) (a b : EReal) :
      Scalar.select (Ideal.cmp .olt ((k.val : ℝ) : EReal) (c : EReal)) a b = if (k.val : ℝ) < c then a else b := by
    unfold Ideal.cmp
    simp only [EReal.coe_lt_coe_iff]
    by_cases h : (k.val : ℝ) < c
    · rw [if_pos h, decide_eq_true h]; rfl
    · rw [if_neg h, decide_eq_false h]; rfl
  unfold pick
  rw [hF, lit_one, lit_two, lit_three, below, below, below]
  fin_cases k <;> norm_num <;> rfl

/-- The word of a knot reads the knot's entry. -/
theorem entry_left (R : Fin 5 → EReal) (k : Fin 4) : entry R (wrapW (BitVec.ofNat 32 k.val)) = R k.castSucc := by
  fin_cases k <;> rfl
/-- The word after it reads the next knot's entry. -/
theorem entry_right (R : Fin 5 → EReal) (k : Fin 4) :
    entry R (wrapW (IntOp.addi (BitVec.ofNat 32 k.val) 1#32)) = R k.succ := by
  fin_cases k <;> rfl

/-! ## The two splines -/

/-- Over a table of real numbers both splines have one and the same real value. -/
theorem spline_real {T : Fin 2 → Fin 5 → EReal} {t : Fin 2 → Fin 5 → ℝ} (hT : ∀ i j, T i j = (t i j : EReal)) (x : EReal) :
    ∃ s : ℝ, cubicSpline T x = (s : EReal) ∧ hermiteSpline T x = (s : EReal) := by
  obtain ⟨k, hF, hW⟩ := segment x
  obtain ⟨u, hu, hw⟩ := place x
  have hv := pick_eq hF (fun k => T 0 k.castSucc)
  have hm := pick_eq hF (fun k => T 1 k.castSucc)
  have hc := pick_eq hF (fun k => sqCoeff (T 0 k.castSucc) (T 1 k.castSucc) (T 0 k.succ) (T 1 k.succ))
  have hd := pick_eq hF (fun k => cuCoeff (T 0 k.castSucc) (T 1 k.castSucc) (T 0 k.succ) (T 1 k.succ))
  have hcubic : cubicSpline T x = T 0 k.castSucc + frac x * (T 1 k.castSucc
      + frac x * (sqCoeff (T 0 k.castSucc) (T 1 k.castSucc) (T 0 k.succ) (T 1 k.succ)
        + frac x * cuCoeff (T 0 k.castSucc) (T 1 k.castSucc) (T 0 k.succ) (T 1 k.succ))) := by
    rw [← hc, ← hd, ← hv, ← hm]; rfl
  set v := t 0 k.castSucc
  set m := t 1 k.castSucc
  set w := t 0 k.succ
  set n := t 1 k.succ
  refine ⟨v + u * (m + u * ((-3 * v - 2 * m + 3 * w - n) + u * (2 * v + m - 2 * w + n))), ?_, ?_⟩
  · rw [hcubic, hu]
    unfold sqCoeff cuCoeff
    rw [lit_two, lit_three, lit_neg_three]
    simp only [hT, ← EReal.coe_add, ← EReal.coe_mul, ← EReal.coe_sub]
    rfl
  · unfold hermiteSpline hermite
    rw [hw, hW, entry_left, entry_left, entry_right, entry_right, lit_one, lit_two, lit_three, lit_neg_two]
    simp only [hT, ← EReal.coe_add, ← EReal.coe_mul, ← EReal.coe_sub]
    refine congrArg _ ?_
    show (2 * (u * u * u) - 3 * (u * u) + 1) * v + (u * u * u - 2 * (u * u) + u) * m
      + (-2 * (u * u * u) + 3 * (u * u)) * w + (u * u * u - u * u) * n = _
    ring

/-! ## One step, and the whole flow -/

/-- A real factor distributes over the sum of a real number and any extended real. -/
theorem real_mul_add (k c : ℝ) (y : EReal) : (k : EReal) * (c + y) = k * c + k * y := by
  induction y with
  | coe y => norm_cast; ring
  | bot =>
    rcases lt_trichotomy k 0 with h | h | h
    · rw [EReal.add_bot, EReal.coe_mul_bot_of_neg h, ← EReal.coe_mul, EReal.coe_add_top]
    · subst h; simp
    · rw [EReal.add_bot, EReal.coe_mul_bot_of_pos h, EReal.add_bot]
  | top =>
    rcases lt_trichotomy k 0 with h | h | h
    · rw [EReal.coe_add_top, EReal.coe_mul_top_of_neg h, EReal.add_bot]
    · subst h; simp
    · rw [EReal.coe_add_top, EReal.coe_mul_top_of_pos h, ← EReal.coe_mul, EReal.coe_add_top]

/-- Over tables of real numbers the two steps agree at every extended real. -/
theorem step_eq {V A : Fin 2 → Fin 5 → EReal} {v a : Fin 2 → Fin 5 → ℝ} (hV : ∀ i j, V i j = (v i j : EReal))
    (hA : ∀ i j, A i j = (a i j : EReal)) (x : EReal) : cubicStep V A x = hermiteStep V A x := by
  obtain ⟨p, hp, hp'⟩ := spline_real hV x
  obtain ⟨q, hq, hq'⟩ := spline_real hA x
  obtain ⟨s, hs⟩ := lit_step
  unfold cubicStep hermiteStep
  rw [hp, hp', hq, hq', hs]
  refine congrArg (x + ·) ?_
  show ((s : EReal) * p) * ((Real.cos q : EReal) + x * (Real.sin q : EReal))
    = ((p : EReal) * (Real.cos q : EReal) + x * p * (Real.sin q : EReal)) * s
  have hpull : (p : EReal) * (Real.cos q : EReal) + x * p * (Real.sin q : EReal)
      = p * ((Real.cos q : EReal) + x * (Real.sin q : EReal)) := by
    rw [real_mul_add, mul_comm x (p : EReal), mul_assoc]
  rw [hpull, mul_comm _ (s : EReal), mul_assoc]

/-- Over tables of real numbers the two programs make the same of every entry. -/
theorem flow_eq {V A : Fin 2 → Fin 5 → EReal} {v a : Fin 2 → Fin 5 → ℝ} (hV : ∀ i j, V i j = (v i j : EReal))
    (hA : ∀ i j, A i j = (a i j : EReal)) (ct st d : EReal) : kernelFlow V A ct st d = referenceFlow V A ct st d := by
  have hstep : cubicStep V A = hermiteStep V A := funext (step_eq hV hA)
  have hin : d * (ct * lit 0x3F966CFE#32) = d * lit 0x3F966CFE#32 * ct := by
    rw [mul_comm ct, mul_assoc]
  unfold kernelFlow referenceFlow
  rw [hstep, hin]
  unfold Ideal.div
  rw [if_neg lit_scale_ne_zero, if_neg lit_scale_ne_zero]
  exact (mul_assoc _ _ _).symm

end Flow

end
-- ==== Proof.KernelBlock.lean ====
/-
  What one grid point of the kernel leaves in its output block: entry by entry, the flow of that entry
  (`Flow.kernelFlow`) under the two tables and the two scalars the block was given.
-/
module

public import proofs.«01_k».proof.Proof.Gen.KernelIdeal.Frame
public import proofs.«01_k».proof.Proof.FlowScalar
public import Idealize.ShloMosaic.Lib.Pipeline.Value

@[expose] public section

noncomputable section

namespace Cert.KernelIdeal.Block

open Cert.KernelIdeal Cert.KernelIdeal.Gen Idealize.ShloMosaic Idealize.ShloMosaic.ValueIdx Flow

/-- A table's entries by row and knot. -/
def rows (T : Vec Ideal S2x5 .f32) : Fin 2 → Fin 5 → EReal := fun i j => T (ix2 i j)

section
variable (c : Dev nD) (i : grid0.Coords) (arg1 : Memref sig .tc .vmem S256x4096 .f32) (harg1 : arg1.IsWhole)
  (arg2 : Memref sig .tc .smem S2x5 .f32) (harg2 : arg2.IsWhole) (arg3 : Memref sig .tc .smem S2x5 .f32) (harg3 : arg3.IsWhole)
  (arg4 : Memref sig .tc .smem S1x1 .f32) (harg4 : arg4.IsWhole) (arg5 : Memref sig .tc .smem S1x1 .f32) (harg5 : arg5.IsWhole)
  (arg6 : Memref sig .tc .vmem S256x4096 .f32) (harg6 : arg6.IsWhole)
  (x0 : Vec Ideal S256x4096 .f32) (x1 : Vec Ideal S2x5 .f32) (x2 : Vec Ideal S2x5 .f32) (x3 : Vec Ideal S1x1 .f32) (x4 : Vec Ideal S1x1 .f32)

/-- One entry of a table held whole, read through a unit box at its place. -/
theorem load_entry (M : Memref sig .tc .smem S2x5 .f32) (hM : M.IsWhole) (T : Vec Ideal S2x5 .f32) (a : Fin 2) (b : Fin 5)
    (inb : ∀ d, (![a.val, b.val] : Fin S2x5.rank → ℕ) d + S1x1.size d ≤ S2x5.size d) (z : S1x1.Idx) :
    View.readAt (Elt Ideal) M.view (Rect.unit (s := S2x5) ![a.val, b.val] S1x1.size inb).toLoadRect (hM.unread T) z
      = rows T a b := by
  rw [View.readAt_apply, hM.read_unread]
  refine congrArg T (funext fun d => Fin.ext ?_)
  match d with
  | ⟨0, _⟩ =>
    have h := idx2_lt0 z
    show a.val + 1 * (z 0).val = a.val
    omega
  | ⟨1, _⟩ =>
    have h := idx2_lt1 z
    show b.val + 1 * (z 1).val = b.val
    omega

/-- A scalar held as a one-entry array, read through the unit box over it. -/
theorem load_scalar (M : Memref sig .tc .smem S1x1 .f32) (hM : M.IsWhole) (T : Vec Ideal S1x1 .f32)
    (inb : ∀ d, (![0, 0] : Fin S1x1.rank → ℕ) d + S1x1.size d ≤ S1x1.size d) (z : S1x1.Idx) :
    View.readAt (Elt Ideal) M.view (Rect.unit (s := S1x1) ![0, 0] S1x1.size inb).toLoadRect (hM.unread T) z
      = T (ix2 0 0) := by
  rw [View.readAt_apply, hM.read_unread]
  refine congrArg T (funext fun d => Fin.ext ?_)
  match d with
  | ⟨0, _⟩ =>
    have h := idx2_lt0 z
    show 0 + 1 * (z 0).val = 0
    omega
  | ⟨1, _⟩ =>
    have h := idx2_lt1 z
    show 0 + 1 * (z 1).val = 0
    omega

/-- The data block, read through the box over all of it. -/
theorem load_block (M : Memref sig .tc .vmem S256x4096 .f32) (hM : M.IsWhole) (T : Vec Ideal S256x4096 .f32)
    (inb : ∀ d, (![0, 0] : Fin S256x4096.rank → ℕ) d + S256x4096.size d ≤ S256x4096.size d) (z : S256x4096.Idx) :
    View.readAt (Elt Ideal) M.view (Rect.unit (s := S256x4096) ![0, 0] S256x4096.size inb).toLoadRect (hM.unread T) z
      = T z := by
  rw [View.readAt_apply, hM.read_unread]
  refine congrArg T (funext fun d => Fin.ext ?_)
  match d with
  | ⟨0, _⟩ =>
    show 0 + 1 * (z 0).val = (z 0).val
    omega
  | ⟨1, _⟩ =>
    show 0 + 1 * (z 1).val = (z 1).val
    omega

/-! The loads of the two tables, and the segments' coefficients. -/

theorem vel_0_0 : kernelRun0_A.sl.r c arg2 harg2 x1 = rows x1 0 0 := load_entry arg2 harg2 x1 0 0 _ _
theorem vel_1_0 : kernelRun0_A.sl.r_1 c arg2 harg2 x1 = rows x1 1 0 := load_entry arg2 harg2 x1 1 0 _ _
theorem vel_0_1 : kernelRun0_A.sl.r_2 c arg2 harg2 x1 = rows x1 0 1 := load_entry arg2 harg2 x1 0 1 _ _
theorem vel_1_1 : kernelRun0_A.sl.r_3 c arg2 harg2 x1 = rows x1 1 1 := load_entry arg2 harg2 x1 1 1 _ _
theorem vel_0_2 : kernelRun0_A.sl.r_4 c arg2 harg2 x1 = rows x1 0 2 := load_entry arg2 harg2 x1 0 2 _ _
theorem vel_1_2 : kernelRun0_A.sl.r_5 c arg2 harg2 x1 = rows x1 1 2 := load_entry arg2 harg2 x1 1 2 _ _
theorem vel_0_3 : kernelRun0_A.sl.r_10 c arg2 harg2 x1 = rows x1 0 3 := load_entry arg2 harg2 x1 0 3 _ _
theorem vel_1_3 : kernelRun0_A.sl.r_11 c arg2 harg2 x1 = rows x1 1 3 := load_entry arg2 harg2 x1 1 3 _ _
theorem vel_0_4 : kernelRun0_A.sl.r_12 c arg2 harg2 x1 = rows x1 0 4 := load_entry arg2 harg2 x1 0 4 _ _
theorem vel_1_4 : kernelRun0_A.sl.r_13 c arg2 harg2 x1 = rows x1 1 4 := load_entry arg2 harg2 x1 1 4 _ _
theorem vel_sq_0 : kernelRun0_A.sl.r_6 c arg2 harg2 x1 = sqCoeff (rows x1 0 0) (rows x1 1 0) (rows x1 0 1) (rows x1 1 1) := by
  rw [← vel_0_0 c arg2 harg2 x1, ← vel_1_0 c arg2 harg2 x1, ← vel_0_1 c arg2 harg2 x1, ← vel_1_1 c arg2 harg2 x1]; rfl
theorem vel_cu_0 : kernelRun0_A.sl.r_7 c arg2 harg2 x1 = cuCoeff (rows x1 0 0) (rows x1 1 0) (rows x1 0 1) (rows x1 1 1) := by
  rw [← vel_0_0 c arg2 harg2 x1, ← vel_1_0 c arg2 harg2 x1, ← vel_0_1 c arg2 harg2 x1, ← vel_1_1 c arg2 harg2 x1]; rfl
theorem vel_sq_1 : kernelRun0_A.sl.r_8 c arg2 harg2 x1 = sqCoeff (rows x1 0 1) (rows x1 1 1) (rows x1 0 2) (rows x1 1 2) := by
  rw [← vel_0_1 c arg2 harg2 x1, ← vel_1_1 c arg2 harg2 x1, ← vel_0_2 c arg2 harg2 x1, ← vel_1_2 c arg2 harg2 x1]; rfl
theorem vel_cu_1 : kernelRun0_A.sl.r_9 c arg2 harg2 x1 = cuCoeff (rows x1 0 1) (rows x1 1 1) (rows x1 0 2) (rows x1 1 2) := by
  rw [← vel_0_1 c arg2 harg2 x1, ← vel_1_1 c arg2 harg2 x1, ← vel_0_2 c arg2 harg2 x1, ← vel_1_2 c arg2 harg2 x1]; rfl
theorem vel_sq_2 : kernelRun0_A.sl.r_16 c arg2 harg2 x1 = sqCoeff (rows x1 0 2) (rows x1 1 2) (rows x1 0 3) (rows x1 1 3) := by
  rw [← vel_0_2 c arg2 harg2 x1, ← vel_1_2 c arg2 harg2 x1, ← vel_0_3 c arg2 harg2 x1, ← vel_1_3 c arg2 harg2 x1]; rfl
theorem vel_cu_2 : kernelRun0_A.sl.r_17 c arg2 harg2 x1 = cuCoeff (rows x1 0 2) (rows x1 1 2) (rows x1 0 3) (rows x1 1 3) := by
  rw [← vel_0_2 c arg2 harg2 x1, ← vel_1_2 c arg2 harg2 x1, ← vel_0_3 c arg2 harg2 x1, ← vel_1_3 c arg2 harg2 x1]; rfl
theorem vel_sq_3 : kernelRun0_A.sl.r_18 c arg2 harg2 x1 = sqCoeff (rows x1 0 3) (rows x1 1 3) (rows x1 0 4) (rows x1 1 4) := by
  rw [← vel_0_3 c arg2 harg2 x1, ← vel_1_3 c arg2 harg2 x1, ← vel_0_4 c arg2 harg2 x1, ← vel_1_4 c arg2 harg2 x1]; rfl
theorem vel_cu_3 : kernelRun0_A.sl.r_19 c arg2 harg2 x1 = cuCoeff (rows x1 0 3) (rows x1 1 3) (rows x1 0 4) (rows x1 1 4) := by
  rw [← vel_0_3 c arg2 harg2 x1, ← vel_1_3 c arg2 harg2 x1, ← vel_0_4 c arg2 harg2 x1, ← vel_1_4 c arg2 harg2 x1]; rfl
theorem ang_0_0 : kernelRun0_A.sl.r_14 c arg3 harg3 x2 = rows x2 0 0 := load_entry arg3 harg3 x2 0 0 _ _
theorem ang_1_0 : kernelRun0_A.sl.r_15 c arg3 harg3 x2 = rows x2 1 0 := load_entry arg3 harg3 x2 1 0 _ _
theorem ang_0_1 : kernelRun0_A.sl.r_20 c arg3 harg3 x2 = rows x2 0 1 := load_entry arg3 harg3 x2 0 1 _ _
theorem ang_1_1 : kernelRun0_A.sl.r_21 c arg3 harg3 x2 = rows x2 1 1 := load_entry arg3 harg3 x2 1 1 _ _
theorem ang_0_2 : kernelRun0_A.sl.r_22 c arg3 harg3 x2 = rows x2 0 2 := load_entry arg3 harg3 x2 0 2 _ _
theorem ang_1_2 : kernelRun0_A.sl.r_23 c arg3 harg3 x2 = rows x2 1 2 := load_entry arg3 harg3 x2 1 2 _ _
theorem ang_0_3 : kernelRun0_A.sl.r_24 c arg3 harg3 x2 = rows x2 0 3 := load_entry arg3 harg3 x2 0 3 _ _
theorem ang_1_3 : kernelRun0_A.sl.r_29 c arg3 harg3 x2 = rows x2 1 3 := load_entry arg3 harg3 x2 1 3 _ _
theorem ang_0_4 : kernelRun0_A.sl.r_30 c arg3 harg3 x2 = rows x2 0 4 := load_entry arg3 harg3 x2 0 4 _ _
theorem ang_1_4 : kernelRun0_A.sl.r_31 c arg3 harg3 x2 = rows x2 1 4 := load_entry arg3 harg3 x2 1 4 _ _
theorem ang_sq_0 : kernelRun0_A.sl.r_25 c arg3 harg3 x2 = sqCoeff (rows x2 0 0) (rows x2 1 0) (rows x2 0 1) (rows x2 1 1) := by
  rw [← ang_0_0 c arg3 harg3 x2, ← ang_1_0 c arg3 harg3 x2, ← ang_0_1 c arg3 harg3 x2, ← ang_1_1 c arg3 harg3 x2]; rfl
theorem ang_cu_0 : kernelRun0_A.sl.r_26 c arg3 harg3 x2 = cuCoeff (rows x2 0 0) (rows x2 1 0) (rows x2 0 1) (rows x2 1 1) := by
  rw [← ang_0_0 c arg3 harg3 x2, ← ang_1_0 c arg3 harg3 x2, ← ang_0_1 c arg3 harg3 x2, ← ang_1_1 c arg3 harg3 x2]; rfl
theorem ang_sq_1 : kernelRun0_A.sl.r_27 c arg3 harg3 x2 = sqCoeff (rows x2 0 1) (rows x2 1 1) (rows x2 0 2) (rows x2 1 2) := by
  rw [← ang_0_1 c arg3 harg3 x2, ← ang_1_1 c arg3 harg3 x2, ← ang_0_2 c arg3 harg3 x2, ← ang_1_2 c arg3 harg3 x2]; rfl
theorem ang_cu_1 : kernelRun0_A.sl.r_28 c arg3 harg3 x2 = cuCoeff (rows x2 0 1) (rows x2 1 1) (rows x2 0 2) (rows x2 1 2) := by
  rw [← ang_0_1 c arg3 harg3 x2, ← ang_1_1 c arg3 harg3 x2, ← ang_0_2 c arg3 harg3 x2, ← ang_1_2 c arg3 harg3 x2]; rfl
theorem ang_sq_2 : kernelRun0_A.sl.r_33 c arg3 harg3 x2 = sqCoeff (rows x2 0 2) (rows x2 1 2) (rows x2 0 3) (rows x2 1 3) := by
  rw [← ang_0_2 c arg3 harg3 x2, ← ang_1_2 c arg3 harg3 x2, ← ang_0_3 c arg3 harg3 x2, ← ang_1_3 c arg3 harg3 x2]; rfl
theorem ang_cu_2 : kernelRun0_A.sl.r_34 c arg3 harg3 x2 = cuCoeff (rows x2 0 2) (rows x2 1 2) (rows x2 0 3) (rows x2 1 3) := by
  rw [← ang_0_2 c arg3 harg3 x2, ← ang_1_2 c arg3 harg3 x2, ← ang_0_3 c arg3 harg3 x2, ← ang_1_3 c arg3 harg3 x2]; rfl
theorem ang_sq_3 : kernelRun0_A.sl.r_35 c arg3 harg3 x2 = sqCoeff (rows x2 0 3) (rows x2 1 3) (rows x2 0 4) (rows x2 1 4) := by
  rw [← ang_0_3 c arg3 harg3 x2, ← ang_1_3 c arg3 harg3 x2, ← ang_0_4 c arg3 harg3 x2, ← ang_1_4 c arg3 harg3 x2]; rfl
theorem ang_cu_3 : kernelRun0_A.sl.r_36 c arg3 harg3 x2 = cuCoeff (rows x2 0 3) (rows x2 1 3) (rows x2 0 4) (rows x2 1 4) := by
  rw [← ang_0_3 c arg3 harg3 x2, ← ang_1_3 c arg3 harg3 x2, ← ang_0_4 c arg3 harg3 x2, ← ang_1_4 c arg3 harg3 x2]; rfl

/-- The entry before the first step. -/
theorem input_apply (j : S256x4096.Idx) :
    kernelRun0_A.sl.r_37 c arg1 harg1 arg4 harg4 x0 x3 j = x0 j * (x3 (ix2 0 0) * lit 0x3F966CFE#32) := by
  have h : kernelRun0_A.sl.r_32 c arg4 harg4 x3 = x3 (ix2 0 0) := load_scalar arg4 harg4 x3 _ _
  unfold kernelRun0_A.sl.r_37 k0_pay18
  simp only [mulf_apply, broadcast_apply, shapeCast_self]
  rw [h, load_block arg1 harg1 x0]
  rfl

/-- Where step 1 finds the entry on the knots. -/
theorem located1 (j : S256x4096.Idx) :
    kernelRun0_A.sl.r_39 c arg1 harg1 arg4 harg4 x0 x3 j = frac (kernelRun0_A.sl.r_37 c arg1 harg1 arg4 harg4 x0 x3 j)
    ∧ kernelRun0_A.sl.r_40 c arg1 harg1 arg4 harg4 x0 x3 j
      = Ideal.cmp .olt (segF (kernelRun0_A.sl.r_37 c arg1 harg1 arg4 harg4 x0 x3 j)) (lit 0x3F800000#32)
    ∧ kernelRun0_A.sl.r_41 c arg1 harg1 arg4 harg4 x0 x3 j
      = Ideal.cmp .olt (segF (kernelRun0_A.sl.r_37 c arg1 harg1 arg4 harg4 x0 x3 j)) (lit 0x40000000#32)
    ∧ kernelRun0_A.sl.r_42 c arg1 harg1 arg4 harg4 x0 x3 j
      = Ideal.cmp .olt (segF (kernelRun0_A.sl.r_37 c arg1 harg1 arg4 harg4 x0 x3 j)) (lit 0x40400000#32) :=
  ⟨rfl, rfl, rfl, rfl⟩

/-- The first step's velocity. -/
theorem vel1 (j : S256x4096.Idx) :
    kernelRun0_A.sl.r_43 c arg1 harg1 arg2 harg2 arg4 harg4 x0 x1 x3 j = cubicSpline (rows x1) (kernelRun0_A.sl.r_37 c arg1 harg1 arg4 harg4 x0 x3 j) := by
  obtain ⟨hu, h1, h2, h3⟩ := located1 c arg1 harg1 arg4 harg4 x0 x3 j
  unfold cubicSpline pick
  rw [← hu, ← h1, ← h2, ← h3]
  simp only [kernelRun0_A.sl.r_43, k0_pay26, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3]
  rfl

/-- The entry after the first step. -/
theorem step1 (j : S256x4096.Idx) :
    kernelRun0_A.sl.r_45 c arg1 harg1 arg2 harg2 arg3 harg3 arg4 harg4 x0 x1 x2 x3 j
      = cubicStep (rows x1) (rows x2) (kernelRun0_A.sl.r_37 c arg1 harg1 arg4 harg4 x0 x3 j) := by
  obtain ⟨hu, h1, h2, h3⟩ := located1 c arg1 harg1 arg4 harg4 x0 x3 j
  unfold cubicStep
  rw [← vel1 c arg1 harg1 arg2 harg2 arg4 harg4 x0 x1 x3 j]
  unfold cubicSpline pick
  rw [← hu, ← h1, ← h2, ← h3]
  simp only [kernelRun0_A.sl.r_45, kernelRun0_A.sl.r_44, k0_pay28, k0_pay27, addf_apply, mulf_apply, select_apply, broadcast_apply, ang_0_0, ang_1_0, ang_0_1, ang_1_1, ang_0_2, ang_1_2, ang_0_3, ang_1_3, ang_0_4, ang_1_4, ang_sq_0, ang_cu_0, ang_sq_1, ang_cu_1, ang_sq_2, ang_cu_2, ang_sq_3, ang_cu_3]
  rfl

/-- Where step 2 finds the entry on the knots. -/
theorem located2 (j : S256x4096.Idx) :
    kernelRun0_A.sl.r_46 c arg1 harg1 arg2 harg2 arg3 harg3 arg4 harg4 x0 x1 x2 x3 j = frac (kernelRun0_A.sl.r_45 c arg1 harg1 arg2 harg2 arg3 harg3 arg4 harg4 x0 x1 x2 x3 j)
    ∧ kernelRun0_A.sl.r_47 c arg1 harg1 arg2 harg2 arg3 harg3 arg4 harg4 x0 x1 x2 x3 j
      = Ideal.cmp .olt (segF (kernelRun0_A.sl.r_45 c arg1 harg1 arg2 harg2 arg3 harg3 arg4 harg4 x0 x1 x2 x3 j)) (lit 0x3F800000#32)
    ∧ kernelRun0_A.sl.r_48 c arg1 harg1 arg2 harg2 arg3 harg3 arg4 harg4 x0 x1 x2 x3 j
      = Ideal.cmp .olt (segF (kernelRun0_A.sl.r_45 c arg1 harg1 arg2 harg2 arg3 harg3 arg4 harg4 x0 x1 x2 x3 j)) (lit 0x40000000#32)
    ∧ kernelRun0_A.sl.r_49 c arg1 harg1 arg2 harg2 arg3 harg3 arg4 harg4 x0 x1 x2 x3 j
      = Ideal.cmp .olt (segF (kernelRun0_A.sl.r_45 c arg1 harg1 arg2 harg2 arg3 harg3 arg4 harg4 x0 x1 x2 x3 j)) (lit 0x40400000#32) :=
  ⟨rfl, rfl, rfl, rfl⟩

/-- The second step's velocity. -/
theorem vel2 (j : S256x4096.Idx) :
    kernelRun0_A.sl.r_51 c arg1 harg1 arg2 harg2 arg3 harg3 arg4 harg4 x0 x1 x2 x3 j = cubicSpline (rows x1) (kernelRun0_A.sl.r_45 c arg1 harg1 arg2 harg2 arg3 harg3 arg4 harg4 x0 x1 x2 x3 j) := by
  obtain ⟨hu, h1, h2, h3⟩ := located2 c arg1 harg1 arg2 harg2 arg3 harg3 arg4 harg4 x0 x1 x2 x3 j
  unfold cubicSpline pick
  rw [← hu, ← h1, ← h2, ← h3]
  simp only [kernelRun0_A.sl.r_51, kernelRun0_A.sl.r_50, k0_pay36, k0_pay35, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3]

/-- The entry after the second step. -/
theorem step2 (j : S256x4096.Idx) :
    kernelRun0_A.sl.r_57 c arg1 harg1 arg2 harg2 arg3 harg3 arg4 harg4 x0 x1 x2 x3 j
      = cubicStep (rows x1) (rows x2) (kernelRun0_A.sl.r_45 c arg1 harg1 arg2 harg2 arg3 harg3 arg4 harg4 x0 x1 x2 x3 j) := by
  obtain ⟨hu, h1, h2, h3⟩ := located2 c arg1 harg1 arg2 harg2 arg3 harg3 arg4 harg4 x0 x1 x2 x3 j
  unfold cubicStep
  rw [← vel2 c arg1 harg1 arg2 harg2 arg3 harg3 arg4 harg4 x0 x1 x2 x3 j]
  unfold cubicSpline pick
  rw [← hu, ← h1, ← h2, ← h3]
  simp only [kernelRun0_A.sl.r_57, kernelRun0_A.sl.r_52, kernelRun0_A.sl.r_53, kernelRun0_A.sl.r_54, kernelRun0_A.sl.r_55, kernelRun0_A.sl.r_56, k0_pay42, k0_pay37, k0_pay38, k0_pay39, k0_pay40, k0_pay41, addf_apply, mulf_apply, select_apply, broadcast_apply, ang_0_0, ang_1_0, ang_0_1, ang_1_1, ang_0_2, ang_1_2, ang_0_3, ang_1_3, ang_0_4, ang_1_4, ang_sq_0, ang_cu_0, ang_sq_1, ang_cu_1, ang_sq_2, ang_cu_2, ang_sq_3, ang_cu_3]
  rfl

/-- Where step 3 finds the entry on the knots. -/
theorem located3 (j : S256x4096.Idx) :
    kernelRun0_A.sl.r_58 c arg1 harg1 arg2 harg2 arg3 harg3 arg4 harg4 x0 x1 x2 x3 j = frac (kernelRun0_A.sl.r_57 c arg1 harg1 arg2 harg2 arg3 harg3 arg4 harg4 x0 x1 x2 x3 j)
    ∧ kernelRun0_A.sl.r_59 c arg1 harg1 arg2 harg2 arg3 harg3 arg4 harg4 x0 x1 x2 x3 j
      = Ideal.cmp .olt (segF (kernelRun0_A.sl.r_57 c arg1 harg1 arg2 harg2 arg3 harg3 arg4 harg4 x0 x1 x2 x3 j)) (lit 0x3F800000#32)
    ∧ kernelRun0_A.sl.r_60 c arg1 harg1 arg2 harg2 arg3 harg3 arg4 harg4 x0 x1 x2 x3 j
      = Ideal.cmp .olt (segF (kernelRun0_A.sl.r_57 c arg1 harg1 arg2 harg2 arg3 harg3 arg4 harg4 x0 x1 x2 x3 j)) (lit 0x40000000#32)
    ∧ kernelRun0_A.sl.r_61 c arg1 harg1 arg2 harg2 arg3 harg3 arg4 harg4 x0 x1 x2 x3 j
      = Ideal.cmp .olt (segF (kernelRun0_A.sl.r_57 c arg1 harg1 arg2 harg2 arg3 harg3 arg4 harg4 x0 x1 x2 x3 j)) (lit 0x40400000#32) :=
  ⟨rfl, rfl, rfl, rfl⟩

/-- The entry after the third step. -/
theorem step3 (j : S256x4096.Idx) :
    kernelRun0_A.sl.r_66 c arg1 harg1 arg2 harg2 arg3 harg3 arg4 harg4 x0 x1 x2 x3 j
      = cubicStep (rows x1) (rows x2) (kernelRun0_A.sl.r_57 c arg1 harg1 arg2 harg2 arg3 harg3 arg4 harg4 x0 x1 x2 x3 j) := by
  obtain ⟨hu, h1, h2, h3⟩ := located3 c arg1 harg1 arg2 harg2 arg3 harg3 arg4 harg4 x0 x1 x2 x3 j
  have e1 : kernelRun0_A.sl.r_62 c arg1 harg1 arg2 harg2 arg3 harg3 arg4 harg4 x0 x1 x2 x3 j = pick (kernelRun0_A.sl.r_57 c arg1 harg1 arg2 harg2 arg3 harg3 arg4 harg4 x0 x1 x2 x3 j) (rows x1 0 0) (rows x1 0 1) (rows x1 0 2) (rows x1 0 3) := by
    unfold pick
    rw [← h1, ← h2, ← h3]
    simp only [kernelRun0_A.sl.r_62, k0_pay49, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3]
    rfl
  have e2 : kernelRun0_A.sl.r_63 c arg1 harg1 arg2 harg2 arg3 harg3 arg4 harg4 x0 x1 x2 x3 j = pick (kernelRun0_A.sl.r_57 c arg1 harg1 arg2 harg2 arg3 harg3 arg4 harg4 x0 x1 x2 x3 j) (rows x1 1 0) (rows x1 1 1) (rows x1 1 2) (rows x1 1 3) := by
    unfold pick
    rw [← h1, ← h2, ← h3]
    simp only [kernelRun0_A.sl.r_63, k0_pay50, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3]
    rfl
  have e3 : kernelRun0_A.sl.r_64 c arg1 harg1 arg2 harg2 arg3 harg3 arg4 harg4 x0 x1 x2 x3 j
      = pick (kernelRun0_A.sl.r_57 c arg1 harg1 arg2 harg2 arg3 harg3 arg4 harg4 x0 x1 x2 x3 j) (sqCoeff (rows x1 0 0) (rows x1 1 0) (rows x1 0 1) (rows x1 1 1))
          (sqCoeff (rows x1 0 1) (rows x1 1 1) (rows x1 0 2) (rows x1 1 2))
          (sqCoeff (rows x1 0 2) (rows x1 1 2) (rows x1 0 3) (rows x1 1 3))
          (sqCoeff (rows x1 0 3) (rows x1 1 3) (rows x1 0 4) (rows x1 1 4)) := by
    unfold pick
    rw [← h1, ← h2, ← h3]
    simp only [kernelRun0_A.sl.r_64, k0_pay51, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3]
    rfl
  unfold cubicStep cubicSpline
  rw [← e1, ← e2, ← e3]
  unfold pick
  rw [← hu, ← h1, ← h2, ← h3]
  simp only [kernelRun0_A.sl.r_66, k0_pay52, addf_apply, mulf_apply, select_apply, broadcast_apply, vel_0_0, vel_1_0, vel_0_1, vel_1_1, vel_0_2, vel_1_2, vel_0_3, vel_1_3, vel_0_4, vel_1_4, vel_sq_0, vel_cu_0, vel_sq_1, vel_cu_1, vel_sq_2, vel_cu_2, vel_sq_3, vel_cu_3, ang_0_0, ang_1_0, ang_0_1, ang_1_1, ang_0_2, ang_1_2, ang_0_3, ang_1_3, ang_0_4, ang_1_4, ang_sq_0, ang_cu_0, ang_sq_1, ang_cu_1, ang_sq_2, ang_cu_2, ang_sq_3, ang_cu_3]
  rfl

/-- THE BLOCK AT AN ENTRY: the entry's flow under the block's two tables and two scalars. -/
theorem block_apply (j : S256x4096.Idx) :
    out0_A_5 c i arg1 harg1 arg2 harg2 arg3 harg3 arg4 harg4 arg5 harg5 arg6 harg6 x0 x1 x2 x3 x4 j
      = kernelFlow (rows x1) (rows x2) (x3 (ix2 0 0)) (x4 (ix2 0 0)) (x0 j) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero (by decide)]
  have h : kernelRun0_A.sl.r_65 c arg5 harg5 x4 = x4 (ix2 0 0) := load_scalar arg5 harg5 x4 _ _
  unfold kernelFlow k0_pay1
  simp only [mulf_apply, broadcast_apply]
  rw [← input_apply c arg1 harg1 arg4 harg4 x0 x3, ← step1 c arg1 harg1 arg2 harg2 arg3 harg3 arg4 harg4 x0 x1 x2 x3, ← step2 c arg1 harg1 arg2 harg2 arg3 harg3 arg4 harg4 x0 x1 x2 x3, ← step3 c arg1 harg1 arg2 harg2 arg3 harg3 arg4 harg4 x0 x1 x2 x3, h]
  rfl

end

end Cert.KernelIdeal.Block

end
-- ==== Proof.KernelArray.lean ====
/- What the kernel's arrays hold. Each of the 32 grid points writes back its block of 256 rows of one function of the
   reshaped argument (`flat`), the blocks tile the array, and the reshape after the region undoes the one before it: the
   result array is, entry by entry, the flow of the argument's entry (`flowed`). -/
module

public import proofs.«01_k».proof.Proof.KernelBlock
public import Idealize.ShloMosaic.Lib.Pipeline.ValueKit.Geometry

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem
open Idealize.ShloMosaic.ValueIdx Flow
open Idealize.ShloMosaic.Pipeline (Dat)

variable (m : (ℓ : Loc nD τ sig) → Buf (Elt Ideal) ℓ) (ρ : Dev nD → PrngReg)

/-- The flow of one entry, under the tables and scalars device `c` was launched with. -/
def entryFlow (c : Dev nD) (d : EReal) : EReal :=
  kernelFlow (rows (m ((c : Thread nD τ).loc main_arg1))) (rows (m ((c : Thread nD τ).loc main_arg2)))
    (m ((c : Thread nD τ).loc main_arg3) (ix2 0 0)) (m ((c : Thread nD τ).loc main_arg4) (ix2 0 0)) d

/-- The region's output array: the flow of each entry of the reshaped argument. -/
def flat (c : Dev nD) : Vec Ideal S8192x4096 .f32 := fun i => entryFlow m c (V m c main_v0 i)

/-- The result array: the flow of each entry of the argument. -/
def flowed (c : Dev nD) : Vec Ideal S64x128x64x64 .f32 := fun k => entryFlow m c (m ((c : Thread nD τ).loc main_arg0) k)

/-- The data windows step down the rows together; the others stay at their one block. -/
theorem idx0 : ∀ t : Fin cfg0.N, win0_0.index t = win0_5.index t := (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- The tables' and scalars' blocks are the arrays themselves. -/
theorem blk1 (c : Dev nD) (t : Fin cfg0.N) (j : S2x5.Idx) : iblk m c 1 t j = m ((c : Thread nD τ).loc main_arg1) j := by
  obtain ⟨e0, e1⟩ := idx1 t
  rw [← V_main_arg1 m c]
  refine congrArg (V m c main_arg1) (funext fun a => Fin.ext ?_)
  match a with
  | ⟨0, _⟩ => show win0_1.index t (0 : Fin 2) * 2 + 1 * (j 0).val = (j 0).val; omega
  | ⟨1, _⟩ => show win0_1.index t (1 : Fin 2) * 5 + 1 * (j 1).val = (j 1).val; omega

theorem blk2 (c : Dev nD) (t : Fin cfg0.N) (j : S2x5.Idx) : iblk m c 2 t j = m ((c : Thread nD τ).loc main_arg2) j := by
  obtain ⟨e0, e1⟩ := idx2 t
  rw [← V_main_arg2 m c]
  refine congrArg (V m c main_arg2) (funext fun a => Fin.ext ?_)
  match a with
  | ⟨0, _⟩ => show win0_2.index t (0 : Fin 2) * 2 + 1 * (j 0).val = (j 0).val; omega
  | ⟨1, _⟩ => show win0_2.index t (1 : Fin 2) * 5 + 1 * (j 1).val = (j 1).val; omega

theorem blk3 (c : Dev nD) (t : Fin cfg0.N) (j : S1x1.Idx) : iblk m c 3 t j = m ((c : Thread nD τ).loc main_arg3) j := by
  obtain ⟨e0, e1⟩ := idx3 t
  rw [← V_main_arg3 m c]
  refine congrArg (V m c main_arg3) (funext fun a => Fin.ext ?_)
  match a with
  | ⟨0, _⟩ => show win0_3.index t (0 : Fin 2) * 1 + 1 * (j 0).val = (j 0).val; omega
  | ⟨1, _⟩ => show win0_3.index t (1 : Fin 2) * 1 + 1 * (j 1).val = (j 1).val; omega

theorem blk4 (c : Dev nD) (t : Fin cfg0.N) (j : S1x1.Idx) : iblk m c 4 t j = m ((c : Thread nD τ).loc main_arg4) j := by
  obtain ⟨e0, e1⟩ := idx4 t
  rw [← V_main_arg4 m c]
  refine congrArg (V m c main_arg4) (funext fun a => Fin.ext ?_)
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- The data block at point `t` reads the reshaped argument where the output block at `t` lies. -/
theorem blk0 (c : Dev nD) (t : Fin cfg0.N) (y : S256x4096.Idx) :
    iblk m c 0 t y = V m c main_v0 (((cfg0.win 5).blk t).view.emb y) := by
  have e := idx0 t
  have e0 := congrFun e (0 : Fin 2)
  have e1 := congrFun e (1 : Fin 2)
  refine congrArg (V m c main_v0) (funext fun a => Fin.ext ?_)
  match a with
  | ⟨0, _⟩ => show win0_0.index t (0 : Fin 2) * 256 + 1 * (y 0).val = win0_5.index t (0 : Fin 2) * 256 + 1 * (y 0).val; omega
  | ⟨1, _⟩ => show win0_0.index t (1 : Fin 2) * 4096 + 1 * (y 1).val = win0_5.index t (1 : Fin 2) * 4096 + 1 * (y 1).val; omega

/-- The region's output array after all 32 write-backs. -/
theorem final (c : Dev nD) : (dats m 0 c).arrAt 5 cfg0.N = flat m c := by
  refine (dats m 0 c).arrAt_eq_of_covers 5 _ (by decide +kernel) fun t hf y => ?_
  blk_simp
  rw [after0_5]
  show outsAt0 m c t y = flat m c _
  unfold outsAt0
  rw [block_apply, blk0, blk3, blk4]
  have h1 : rows (iblk m c 1 t) = rows (m ((c : Thread nD τ).loc main_arg1)) := funext fun a => funext fun b => blk1 m c t _
  have h2 : rows (iblk m c 2 t) = rows (m ((c : Thread nD τ).loc main_arg2)) := funext fun a => funext fun b => blk2 m c t _
  rw [h1, h2]
  rfl

/-- The region finds the argument reshaped to rows. -/
theorem entry_v0 (c : Dev nD) :
    V m c main_v0 = shapeCast S8192x4096 (m ((c : Thread nD τ).loc main_arg0)) shapeCasts_S64x128x64x64_S8192x4096 := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result']
  rfl

/-- After the reshape that follows the region, the result array is the flow of each entry of the argument. -/
theorem tail_v2 (c : Dev nD) :
    Pipeline.afterTail₀ cfgs (dats m) 0 (V0 m) [hostOps1] c main_v2 = flowed m c := by
  unfold Pipeline.afterTail₀
  simp only [hostOps1, List.flatten_cons, List.flatten_nil, List.append_nil, StableHlo.after_cons, StableHlo.after_nil]
  rw [StableHlo.reshape_result']
  have h : Pipeline.withArrays (cfgs 0).spec c (V0 m c) (fun w => (dats m 0 c).arrAt w (cfgs 0).N) (Proc.devRef .tc main_v1)
      = flat m c := (Pipeline.withArrays_arr _ launch0.win.arr_inj c (V0 m c) _ 5).trans (final m c)
  rw [h]
  funext k
  show shapeCast S64x128x64x64 (flat m c) shapeCasts_S8192x4096_S64x128x64x64 k = _
  have back : shapeCast S64x128x64x64 (V m c main_v0) shapeCasts_S8192x4096_S64x128x64x64
      = (m ((c : Thread nD τ).loc main_arg0) : Vec Ideal S64x128x64x64 .f32) := by
    rw [entry_v0]
    exact shapeCast_shapeCast (s := S64x128x64x64) (t := S8192x4096) (m ((c : Thread nD τ).loc main_arg0)) _ _
  exact congrArg (entryFlow m c) (congrFun back k)

/-- THE KERNEL'S RUN: the result array ends at the flow of the argument, the arguments end as launched. -/
theorem run : θ_run defs (onTc (τ := τ) (main (F := Ideal))) ⟨m, fun _ => 0, ρ⟩ fun r => ∀ c : Dev nD,
      r.2.mem ((c : Thread nD τ).loc main_v2) = flowed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h.1 c).2 main_v2 (Pipeline.mem_restRefs_of main_v2 (by decide) (by decide))).trans (tail_v2 m c), h.2 c⟩)
    (θ_run_and (run_main m ρ) (unchanged m ρ))

end Cert.KernelIdeal.Array

end
-- ==== Proof.RefValue.lean ====
/- What the reference computes. Its result array is, entry by entry, `Flow.referenceFlow` of the argument's entry under the
   two tables and the two scalars. One step is read once, for any array (`stepV`); the reference's three steps are three
   uses of it, and its transposes and reshapes cancel around them. -/
module

public import proofs.«01_k».proof.Proof.Gen.ReferenceIdeal.Run
public import proofs.«01_k».proof.Proof.FlowScalar
public import Idealize.ShloMosaic.Lib.Pipeline.Value
public import Idealize.ShloMosaic.Lib.IdealHost

@[expose] public section

set_option maxRecDepth 8192

noncomputable section

namespace Cert.ReferenceIdeal.Flowed

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx Flow

/-- The arrays of numbers and of words the steps work on. -/
abbrev Arr : Type := FVec Ideal S64x4096x128 .f32
abbrev Words : Type := IVec S64x4096x128 32

/-- A table's entries by row and knot. -/
def table (T : Vec Ideal S2x5 .f32) : Fin 2 → Fin 5 → EReal := fun i k => T (ix2 i k)

/-! ## A spline entry picked by a word -/

/-- A literal at every index. -/
def fill (b : BitVec 32) : Arr := broadcastInDim S64x4096x128 ![] bcast_S_S64x4096x128 (constant S_ .f32 b)
/-- A literal word at every index. -/
def fillW (b : BitVec 32) : Words := broadcastInDim S64x4096x128 ![] bcast_S_S64x4096x128 (constantI S_ 32 b)
/-- The words an entry is picked by: a negative one counts from the end. -/
def wrapV (q : Words) : Words := select (cmpi .slt q (fillW 0#32)) (addi q (fillW 5#32)) q
/-- The entries of a row picked by words. -/
def take (R : FVec Ideal S5 .f32) (q : Words) : Arr :=
  Host.gather gather_S5_S64x4096x128x1_S64x4096x128_n_0_n_n_0_3_1 R
    (broadcastInDim S64x4096x128x1 ![0, 1, 2] bcast_S64x4096x128_S64x4096x128x1_0_1_2 (wrapV q))
/-- The two rows of a table. -/
def row0 (T : Vec Ideal S2x5 .f32) : FVec Ideal S5 .f32 :=
  shapeCast _ (extractStridedSlice S1x5 ![0, 0] T slices_S2x5_S1x5_0_0) shapeCasts_S1x5_S5
def row1 (T : Vec Ideal S2x5 .f32) : FVec Ideal S5 .f32 :=
  shapeCast _ (extractStridedSlice S1x5 ![1, 0] T slices_S2x5_S1x5_1_0) shapeCasts_S1x5_S5

theorem fill_apply (b : BitVec 32) (j : S64x4096x128.Idx) : fill b j = lit b := rfl
theorem fillW_apply (b : BitVec 32) (j : S64x4096x128.Idx) : fillW b j = b := rfl
theorem wrapV_apply (q : Words) (j : S64x4096x128.Idx) : wrapV q j = wrapW (q j) := rfl
theorem row0_apply (T : Vec Ideal S2x5 .f32) (k : Fin 5) : row0 T (ix1 k) = table T 0 k := by
  unfold row0 table
  refine (shapeCast_apply _ _ _ (ix2 0 k) ?_).trans (extractStridedSlice_apply _ _ _ _ (ix2 0 k) ?_)
  · simp [Shape.rowMajor_val_one, Shape.rowMajor_val_two]
  · intro a; fin_cases a <;> simp
theorem row1_apply (T : Vec Ideal S2x5 .f32) (k : Fin 5) : row1 T (ix1 k) = table T 1 k := by
  unfold row1 table
  refine (shapeCast_apply _ _ _ (ix2 0 k) ?_).trans (extractStridedSlice_apply _ _ _ _ (ix2 1 k) ?_)
  · simp [Shape.rowMajor_val_one, Shape.rowMajor_val_two]
  · intro a; fin_cases a <;> simp

/-- The place in the array of start words that belongs to a result index. -/
def startIdx (j : S64x4096x128.Idx) : S64x4096x128x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨0, Nat.one_pos⟩

/-- The picked entry at an index: the row's entry at the index's word. -/
theorem take_apply (R : FVec Ideal S5 .f32) (q : Words) (j : S64x4096x128.Idx) :
    take R q j = entry (fun k => R (ix1 k)) (wrapW (q j)) := by
  have hw : broadcastInDim S64x4096x128x1 ![0, 1, 2] bcast_S64x4096x128_S64x4096x128x1_0_1_2 (wrapV q) (startIdx j)
      = wrapW (q j) := by
    refine (broadcastInDim_apply _ _ _ _ j ?_).trans (wrapV_apply q j)
    intro a
    match a with
    | ⟨0, _⟩ => rfl
    | ⟨1, _⟩ => rfl
    | ⟨2, _⟩ => rfl
  unfold take entry Host.gather
  refine congrArg R ?_
  funext a
  obtain rfl : a = 0 := Subsingleton.elim _ _
  refine Fin.ext ?_
  generalize hd : gather_S5_S64x4096x128x1_S64x4096x128_n_0_n_n_0_3_1 = D
  show D.start j _ 0 + D.batchCoord j 0 + D.offCoord j 0 = _
  subst hd
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S5_S64x4096x128x1_S64x4096x128_n_0_n_n_0_3_1.startIndexMap from List.mem_singleton.mpr rfl)]
  have hsi : gather_S5_S64x4096x128x1_S64x4096x128_n_0_n_n_0_3_1.siIdx j
      ⟨List.idxOf (0 : Fin 1) gather_S5_S64x4096x128x1_S64x4096x128_n_0_n_n_0_3_1.startIndexMap,
        List.idxOf_lt_length_iff.2 (List.mem_singleton.mpr rfl)⟩ = startIdx j := by
    funext b; refine Fin.ext ?_
    match b with
    | ⟨0, _⟩ => rfl
    | ⟨1, _⟩ => rfl
    | ⟨2, _⟩ => rfl
    | ⟨3, _⟩ => rfl
  rw [hsi, hw]
  rfl

/-! ## One step -/

/-- The clamp to the knots, the segment's word and the place in the segment. -/
def clampV (x : Arr) : Arr :=
  minimumf (broadcastInDim S64x4096x128 ![] bcast_S_S64x4096x128 (id (constant S_ .f32 0x40800000#32)))
    (maximumf (broadcastInDim S64x4096x128 ![] bcast_S_S64x4096x128 (id (constant S_ .f32 0x00000000#32))) x)
def segV (x : Arr) : Words :=
  minsi (broadcastInDim S64x4096x128 ![] bcast_S_S64x4096x128 (id (constantI S_ 32 3#32)))
    (maxsi (broadcastInDim S64x4096x128 ![] bcast_S_S64x4096x128 (id (constantI S_ 32 0#32))) (fptosi 32 (Host.floor (clampV x))))
def fracV (x : Arr) : Arr := subf (clampV x) (sitofp .f32 (segV x))

theorem segV_apply (x : Arr) (j : S64x4096x128.Idx) : segV x j = segW (x j) := rfl
theorem fracV_apply (x : Arr) (j : S64x4096x128.Idx) : fracV x j = fracW (x j) := rfl

/-- The Hermite combination: entries of the rows `R` (values) and `M` (slopes) at the words `q` and `q + 1`, at the places `u`. -/
def hermiteV (R M : FVec Ideal S5 .f32) (q : Words) (u : Arr) : Arr :=
  addf (addf (addf
    (mulf (addf (subf (mulf (fill 0x40000000#32) (mulf (mulf u u) u)) (mulf (fill 0x40400000#32) (mulf u u))) (fill 0x3F800000#32))
      (take R q))
    (mulf (addf (subf (mulf (mulf u u) u) (mulf (fill 0x40000000#32) (mulf u u))) u) (take M q)))
    (mulf (addf (mulf (fill 0xC0000000#32) (mulf (mulf u u) u)) (mulf (fill 0x40400000#32) (mulf u u)))
      (take R (addi q (fillW 1#32)))))
    (mulf (subf (mulf (mulf u u) u) (mulf u u)) (take M (addi q (fillW 1#32))))

theorem hermiteV_apply (R M : FVec Ideal S5 .f32) (q : Words) (u : Arr) (j : S64x4096x128.Idx) :
    hermiteV R M q u j = hermite (fun k => R (ix1 k)) (fun k => M (ix1 k)) (q j) (u j) := by
  have e : (addi q (fillW 1#32) : Words) j = IntOp.addi (q j) 1#32 := rfl
  unfold hermiteV hermite
  simp only [addf_apply, subf_apply, mulf_apply, fill_apply, take_apply, e]

/-- A table's spline at every entry. -/
def splineV (T : Vec Ideal S2x5 .f32) (x : Arr) : Arr := hermiteV (row0 T) (row1 T) (segV x) (fracV x)

theorem splineV_apply (T : Vec Ideal S2x5 .f32) (x : Arr) (j : S64x4096x128.Idx) :
    splineV T x j = hermiteSpline (table T) (x j) := by
  unfold splineV hermiteSpline
  rw [hermiteV_apply, segV_apply, fracV_apply]
  simp only [row0_apply, row1_apply]

/-- One step at every entry. -/
def stepV (V A : Vec Ideal S2x5 .f32) (x : Arr) : Arr :=
  addf x (mulf (addf (mulf (splineV V x) (Host.cos (splineV A x))) (mulf (mulf x (splineV V x)) (Host.sin (splineV A x))))
    (fill 0x3EAAAAAB#32))

theorem stepV_apply (V A : Vec Ideal S2x5 .f32) (x : Arr) (j : S64x4096x128.Idx) :
    stepV V A x j = hermiteStep (table V) (table A) (x j) := by
  unfold hermiteStep
  rw [← splineV_apply V x j, ← splineV_apply A x j]
  rfl

/-! ## The three steps of the program -/

section
variable (V0 : Valuation τ sig (Elt Ideal))

theorem first : res_main_v145 V0
    = stepV (V0 (Proc.devRef .tc main_arg1)) (V0 (Proc.devRef .tc main_arg2)) (res_main_v6 V0) := rfl
theorem second : res_main_v284 V0
    = stepV (V0 (Proc.devRef .tc main_arg1)) (V0 (Proc.devRef .tc main_arg2)) (res_main_v145 V0) := rfl
theorem third : addf (res_main_v284 V0) (mulf (addf (mulf (res_main_v352 V0) (Host.cos (res_main_v414 V0)))
      (mulf (mulf (res_main_v284 V0) (res_main_v352 V0)) (Host.sin (res_main_v414 V0))))
      (broadcastInDim S64x4096x128 ![] bcast_S_S64x4096x128 (constant S_ .f32 0x3EAAAAAB#32)))
    = stepV (V0 (Proc.devRef .tc main_arg1)) (V0 (Proc.devRef .tc main_arg2)) (res_main_v284 V0) := rfl
/-- A scalar held as a one-entry array, spread over every index. -/
theorem spread_apply (T : Vec Ideal S1x1 .f32) (j : S64x4096x128.Idx) :
    broadcastInDim S64x4096x128 ![] bcast_S_S64x4096x128 (shapeCast S_ T shapeCasts_S1x1_S_) j = T (ix2 0 0) :=
  congrArg T (funext fun a => match a with
    | ⟨0, _⟩ => Subsingleton.elim (α := Fin 1) _ _
    | ⟨1, _⟩ => Subsingleton.elim (α := Fin 1) _ _)

/-- The two transposes cancel, and with them the two reshapes. -/
theorem swap_swap (z : S64x128x4096.Idx → EReal) :
    transpose S64x128x4096 [0, 2, 1] (transpose S64x4096x128 [0, 2, 1] z transposes_S64x128x4096_S64x4096x128_0_2_1)
      transposes_S64x4096x128_S64x128x4096_0_2_1 = z := by
  funext j
  refine (transpose_apply _ _ _ j (ix3 (j 0) (j 2) (j 1)) ?_).trans (transpose_apply _ _ _ _ j ?_)
  · intro b
    match b with
    | ⟨0, _⟩ => rfl
    | ⟨1, _⟩ => rfl
    | ⟨2, _⟩ => rfl
  · intro b
    match b with
    | ⟨0, _⟩ => rfl
    | ⟨1, _⟩ => rfl
    | ⟨2, _⟩ => rfl

theorem there_and_back (y : S64x128x64x64.Idx → EReal) :
    shapeCast S64x128x64x64 (transpose S64x128x4096 [0, 2, 1] (transpose S64x4096x128 [0, 2, 1]
      (shapeCast S64x128x4096 y shapeCasts_S64x128x64x64_S64x128x4096) transposes_S64x128x4096_S64x4096x128_0_2_1)
      transposes_S64x4096x128_S64x128x4096_0_2_1) shapeCasts_S64x128x4096_S64x128x64x64 = y := by
  rw [swap_swap]
  exact shapeCast_shapeCast y _ _

/-- The input of the first step, before the channel scale. -/
def inputV : FVec Ideal S64x128x64x64 .f32 :=
  mulf (V0 (Proc.devRef .tc main_arg0)) (broadcastInDim S64x128x64x64 ![] bcast_S_S64x128x64x64 (constant S_ .f32 0x3F966CFE#32))

theorem input_apply (j : S64x4096x128.Idx) : res_main_v6 V0 j
    = transpose S64x4096x128 [0, 2, 1] (shapeCast S64x128x4096 (inputV V0) shapeCasts_S64x128x64x64_S64x128x4096)
        transposes_S64x128x4096_S64x4096x128_0_2_1 j * (V0 (Proc.devRef .tc main_arg3) : Vec Ideal S1x1 .f32) (ix2 0 0) := by
  rw [← spread_apply (V0 (Proc.devRef .tc main_arg3)) j]
  rfl

/-- What the three steps and the second scale make of one scaled entry. -/
def after (e : EReal) : EReal :=
  hermiteStep (table (V0 (Proc.devRef .tc main_arg1))) (table (V0 (Proc.devRef .tc main_arg2)))
    (hermiteStep (table (V0 (Proc.devRef .tc main_arg1))) (table (V0 (Proc.devRef .tc main_arg2)))
      (hermiteStep (table (V0 (Proc.devRef .tc main_arg1))) (table (V0 (Proc.devRef .tc main_arg2)))
        (e * (V0 (Proc.devRef .tc main_arg3) : Vec Ideal S1x1 .f32) (ix2 0 0))))
    * (V0 (Proc.devRef .tc main_arg4) : Vec Ideal S1x1 .f32) (ix2 0 0)

theorem scaled : mulf (addf (res_main_v284 V0) (mulf (addf (mulf (res_main_v352 V0) (Host.cos (res_main_v414 V0)))
      (mulf (mulf (res_main_v284 V0) (res_main_v352 V0)) (Host.sin (res_main_v414 V0))))
      (broadcastInDim S64x4096x128 ![] bcast_S_S64x4096x128 (constant S_ .f32 0x3EAAAAAB#32))))
      (broadcastInDim S64x4096x128 ![] bcast_S_S64x4096x128 (shapeCast S_ (V0 (Proc.devRef .tc main_arg4)) shapeCasts_S1x1_S_))
    = fun j => after V0 (transpose S64x4096x128 [0, 2, 1] (shapeCast S64x128x4096 (inputV V0) shapeCasts_S64x128x64x64_S64x128x4096)
        transposes_S64x128x4096_S64x4096x128_0_2_1 j) := by
  funext j
  rw [third, second, first, mulf_apply, spread_apply, stepV_apply, stepV_apply, stepV_apply, input_apply]
  rfl

/-- The result array: the reference's flow of each entry of the argument. -/
def flowed : FVec Ideal S64x128x64x64 .f32 := fun k =>
  referenceFlow (table (V0 (Proc.devRef .tc main_arg1))) (table (V0 (Proc.devRef .tc main_arg2)))
    ((V0 (Proc.devRef .tc main_arg3) : Vec Ideal S1x1 .f32) (ix2 0 0)) ((V0 (Proc.devRef .tc main_arg4) : Vec Ideal S1x1 .f32) (ix2 0 0))
    ((V0 (Proc.devRef .tc main_arg0) : Vec Ideal S64x128x64x64 .f32) k)

theorem result : Host.divf (shapeCast S64x128x64x64 (transpose S64x128x4096 [0, 2, 1]
      (mulf (addf (res_main_v284 V0) (mulf (addf (mulf (res_main_v352 V0) (Host.cos (res_main_v414 V0)))
        (mulf (mulf (res_main_v284 V0) (res_main_v352 V0)) (Host.sin (res_main_v414 V0))))
        (broadcastInDim S64x4096x128 ![] bcast_S_S64x4096x128 (constant S_ .f32 0x3EAAAAAB#32))))
        (broadcastInDim S64x4096x128 ![] bcast_S_S64x4096x128 (shapeCast S_ (V0 (Proc.devRef .tc main_arg4)) shapeCasts_S1x1_S_)))
      transposes_S64x4096x128_S64x128x4096_0_2_1) shapeCasts_S64x128x4096_S64x128x64x64)
      (broadcastInDim S64x128x64x64 ![] bcast_S_S64x128x64x64 (constant S_ .f32 0x3F966CFE#32))
    = flowed V0 := by
  rw [scaled]
  funext k
  have h := congrArg (fun e => Ideal.div (after V0 e) (lit 0x3F966CFE#32)) (congrFun (there_and_back (inputV V0)) k)
  exact h

end

/-- THE REFERENCE'S RUN: the result array ends at the flow of the argument, the arguments end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v430) = flowed (launchContents m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (result (launchContents m c)), (h c).2⟩)
    (Cert.ReferenceIdeal.Value.run (F := Ideal) m ρ)

end Cert.ReferenceIdeal.Flowed

end
-- ==== Proof.Tables.lean ====
/- What the precondition says: where `finite_tables` answers one, every entry of both spline tables is a real number. -/
module

public import proofs.«01_k».proof.Pre_finite_tables
public import proofs.«01_k».proof.Proof.FlowScalar
public import Idealize.ShloMosaic.Lib.ReduceAll
public import Idealize.ShloMosaic.Lib.Pipeline.Value

@[expose] public section

noncomputable section

namespace Cert.Pre_finite_tables.Real

open Cert.Pre_finite_tables Idealize.ShloMosaic Idealize.ShloMosaic.ValueIdx Flow

/-- The side conditions the precondition's operations take. -/
theorem facts : Cert.Pre_finite_tables.Facts where
  bcast_S_S2x5 := by decide
  reducesTo_S2x5_S_d0_1 := by decide
  h_S_ := by decide

/-- The literal the entries are compared with is positive infinity. -/
theorem lit_inf : lit 0x7F800000#32 = ⊤ := by
  simp [lit, Ideal.ofBits, Ideal.ieee]

/-- A number whose absolute value lies below positive infinity is a real. -/
theorem real_of_abs_lt {x : EReal} (h : Ideal.cmp .olt (max x (-x)) (lit 0x7F800000#32) = 1#1) :
    x = (x.toReal : EReal) := by
  rw [lit_inf] at h
  have hlt : max x (-x) < ⊤ := by
    by_contra hn
    simp [Ideal.cmp, hn] at h
  obtain ⟨hx, hnx⟩ := max_lt_iff.mp hlt
  refine (EReal.coe_toReal hx.ne fun hb => ?_).symm
  rw [hb, EReal.neg_bot] at hnx
  exact lt_irrefl _ hnx

/-- Two bits whose conjunction is one are both one. -/
theorem bits_of_and : ∀ a b : BitVec 1, a &&& b = 1#1 → a = 1#1 ∧ b = 1#1 := by decide

instance : Subsingleton S_.Idx := ⟨fun _ _ => funext fun d => d.elim0⟩

variable [Facts]
open Facts

/-- The test of one table: are all its entries of absolute value below positive infinity? -/
def tableTest (T : FVec Ideal S2x5 .f32) : IVec S_ 1 :=
  Host.reduce IntOp.andi (cmpf .olt (Host.absf T) (broadcastInDim S2x5 ![] bcast_S_S2x5 (constant S_ .f32 0x7F800000#32)))
    (constantI S_ 1 1#1) reducesTo_S2x5_S_d0_1 h_S_

/-- A table that passes the test has real entries. -/
theorem real_of_tableTest {T : FVec Ideal S2x5 .f32} {j : S_.Idx} (h : tableTest T j = 1#1) (i : S2x5.Idx) :
    T i = ((T i).toReal : EReal) :=
  real_of_abs_lt (Host.reduce_andi_all _ _ _ _ j h i)

/-- Where the precondition holds, both tables' entries are real. -/
theorem tables_real {X : FVec Ideal S64x128x64x64 .f32} {V A : FVec Ideal S2x5 .f32} {C S : FVec Ideal S1x1 .f32}
    (h : fn (F := Ideal) X V A C S = fun _ => 1#1) :
    (∀ i, V i = ((V i).toReal : EReal)) ∧ ∀ i, A i = ((A i).toReal : EReal) := by
  have j : S_.Idx := fun d => d.elim0
  have hj : tableTest V j &&& tableTest A j = 1#1 := congrFun h j
  obtain ⟨hV, hA⟩ := bits_of_and _ _ hj
  exact ⟨real_of_tableTest hV, real_of_tableTest hA⟩

end Cert.Pre_finite_tables.Real

end
-- ==== Proof.lean ====
module

public import proofs.«01_k».proof.Defs
public import proofs.«01_k».proof.Proof.Gen.Kernel.Frame
public import proofs.«01_k».proof.Proof.Gen.KernelIdeal.Frame
public import proofs.«01_k».proof.Proof.KernelArray
public import proofs.«01_k».proof.Proof.RefValue
public import proofs.«01_k».proof.Proof.Tables
public import Idealize.ShloMosaic.Adequacy
public import Idealize.ShloMosaic.Init

@[expose] public section

noncomputable section

namespace Cert.Proof

open Idealize.ShloMosaic Idealize.SL.Sem Idealize.ShloMosaic.ValueIdx

/-- The instance of the precondition's side conditions. -/
instance preFacts : Cert.Pre_finite_tables.Facts := Cert.Pre_finite_tables.Real.facts

/-- The reference ends quiescent: its arguments are unchanged, and it has no semaphore. -/
theorem reference_quiescent : quiescent_ReferenceIdeal := fun m g _ =>
  (θ_run _ _ _).mono (fun r h => ⟨fun c => (h c).2, Idealize.ShloMosaic.sem_eq_zero_of_no_sems (by decide) r.2⟩)
    (Cert.ReferenceIdeal.Flowed.run m g)

/-- On equal arguments with finite tables, the reference's array is the kernel's. -/
theorem arrays_eq
    (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hpre : Pre_KernelIdeal_finite_tables m)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4)) :
    Cert.ReferenceIdeal.Flowed.flowed V0 = Cert.KernelIdeal.Array.flowed m c := by
  obtain ⟨hV, hA⟩ := Cert.Pre_finite_tables.Real.tables_real (hpre c)
  funext k
  unfold Cert.ReferenceIdeal.Flowed.flowed
  rw [h0, h1, h2, h3, h4]
  exact (Flow.flow_eq (fun i j => hV (ix2 i j)) (fun i j => hA (ix2 i j)) _ _ _).symm

/-- The value claim: both programs run, and end at one array. -/
theorem algebraic : algebraic_KernelIdeal_ReferenceIdeal_pre_finite_tables := fun m g m' g' hpre hargs =>
  ⟨Cert.KernelIdeal.Array.flowed m, Cert.KernelIdeal.Array.run m g,
    (θ_run _ _ _).mono (fun _ h c =>
        ⟨(h c).1.trans (arrays_eq m (StableHlo.launchContents m' c) c hpre (hargs c).1 (hargs c).2.1
            (hargs c).2.2.1 (hargs c).2.2.2.1 (hargs c).2.2.2.2), (h c).2⟩)
      (Cert.ReferenceIdeal.Flowed.run m' g')⟩

/-- Everything the certificate claims. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    reference_quiescent,
    fun m g _ => reference_quiescent m g trivial,
    trivial,
    algebraic⟩

end Cert.Proof

end
